-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x5120 : Shape := ⟨3, ![4, 256, 5120]⟩
abbrev S6912x5120 : Shape := ⟨2, ![6912, 5120]⟩
abbrev S6912 : Shape := ⟨1, ![6912]⟩
abbrev S5120x3456 : Shape := ⟨2, ![5120, 3456]⟩
abbrev S5120 : Shape := ⟨1, ![5120]⟩
abbrev S1x6912 : Shape := ⟨2, ![1, 6912]⟩
abbrev S1x5120 : Shape := ⟨2, ![1, 5120]⟩
abbrev S1024x5120 : Shape := ⟨2, ![1024, 5120]⟩
abbrev S1024x1 : Shape := ⟨2, ![1024, 1]⟩
abbrev S1024x3456 : Shape := ⟨2, ![1024, 3456]⟩
abbrev S384x5120 : Shape := ⟨2, ![384, 5120]⟩
abbrev S1x384 : Shape := ⟨2, ![1, 384]⟩
abbrev S512x3456 : Shape := ⟨2, ![512, 3456]⟩
abbrev S1x512 : Shape := ⟨2, ![1, 512]⟩
abbrev S1024x512 : Shape := ⟨2, ![1024, 512]⟩
abbrev S9x1024x384 : Shape := ⟨3, ![9, 1024, 384]⟩
abbrev S1024x128 : Shape := ⟨2, ![1024, 128]⟩
abbrev S64x5120 : Shape := ⟨2, ![64, 5120]⟩
abbrev S64 : Shape := ⟨1, ![64]⟩
abbrev S64x1 : Shape := ⟨2, ![64, 1]⟩
abbrev S1024x384 : Shape := ⟨2, ![1024, 384]⟩
abbrev S1x1024x384 : Shape := ⟨3, ![1, 1024, 384]⟩
abbrev S64x128 : Shape := ⟨2, ![64, 128]⟩
abbrev S1x64x384 : Shape := ⟨3, ![1, 64, 384]⟩
abbrev S64x384 : Shape := ⟨2, ![64, 384]⟩

abbrev nBuf : Space → Nat
  | .hbm => 13
  | .vmem => 21
  | .smem => 0
  | _ => 0

abbrev bufTy : (tb : Table) → Fin (tcTables nBuf tb) → BufTy
  | .hbm, ⟨0, _⟩ => ⟨S4x256x5120, .bf16⟩
  | .hbm, ⟨1, _⟩ => ⟨S6912x5120, .fp8e4m3⟩
  | .hbm, ⟨2, _⟩ => ⟨S6912, .f32⟩
  | .hbm, ⟨3, _⟩ => ⟨S5120x3456, .fp8e4m3⟩
  | .hbm, ⟨4, _⟩ => ⟨S5120, .f32⟩
  | .hbm, ⟨5, _⟩ => ⟨S1x6912, .f32⟩
  | .hbm, ⟨6, _⟩ => ⟨S1x5120, .f32⟩
  | .hbm, ⟨7, _⟩ => ⟨S1024x5120, .bf16⟩
  | .hbm, ⟨8, _⟩ => ⟨S1024x5120, .bf16⟩
  | .hbm, ⟨9, _⟩ => ⟨S1024x5120, .fp8e4m3⟩
  | .hbm, ⟨10, _⟩ => ⟨S1024x1, .f32⟩
  | .hbm, ⟨11, _⟩ => ⟨S1024x3456, .fp8e4m3⟩
  | .hbm, ⟨12, _⟩ => ⟨S1024x1, .f32⟩
  | .local _ .vmem, ⟨0, _⟩ => ⟨S1024x5120, .bf16⟩
  | .local _ .vmem, ⟨1, _⟩ => ⟨S384x5120, .fp8e4m3⟩
  | .local _ .vmem, ⟨2, _⟩ => ⟨S384x5120, .fp8e4m3⟩
  | .local _ .vmem, ⟨3, _⟩ => ⟨S384x5120, .fp8e4m3⟩
  | .local _ .vmem, ⟨4, _⟩ => ⟨S384x5120, .fp8e4m3⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x384, .f32⟩
  | .local _ .vmem, ⟨9, _⟩ => ⟨S512x3456, .fp8e4m3⟩
  | .local _ .vmem, ⟨10, _⟩ => ⟨S512x3456, .fp8e4m3⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x5120, .fp8e4m3⟩
  | .local _ .vmem, ⟨16, _⟩ => ⟨S1024x1, .f32⟩
  | .local _ .vmem, ⟨17, _⟩ => ⟨S1024x3456, .fp8e4m3⟩
  | .local _ .vmem, ⟨18, _⟩ => ⟨S1024x1, .f32⟩
  | .local _ .vmem, ⟨19, _⟩ => ⟨S9x1024x384, .f32⟩
  | .local _ .vmem, ⟨20, _⟩ => ⟨S1024x128, .f32⟩
  | _, _ => ⟨S4x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v12 : BitVec 32 := Scalar.addi c0_i32_6 c16_i32
  let c1_i32 : BitVec 32 := 1#32
  ⟨c0_i32_6, v12, c1_i32⟩
def k0_off1 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c64_i32 : BitVec 32 := 64#32
  let v17 : BitVec 32 := Scalar.muli arg15 c64_i32
  let v18 : Index := Scalar.indexCast v17
  let c0_9 : Index := 0#32
  ![v18.toNat, 0]
def k0_off2 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c64_i32 : BitVec 32 := 64#32
  let v17 : BitVec 32 := Scalar.muli arg15 c64_i32
  let v115 : Index := Scalar.indexCast v17
  let c0_32 : Index := 0#32
  ![v115.toNat, 0]
def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg0 : BitVec 32 := BitVec.ofNat 32 (i 0).val
  let v43 : Index := Scalar.indexCast arg0
  let c0_23 : Index := 0#32
  let c0_24 : Index := 0#32
  ![v43.toNat, 0, 0]
def k0_cond3 (i : grid0.Coords) : BitVec 1 :=
  let arg0 : BitVec 32 := BitVec.ofNat 32 (i 0).val
  let c9_i32_2 : BitVec 32 := 9#32
  let v6 : BitVec 1 := Scalar.cmpi .eq arg0 c9_i32_2
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_6 : BitVec 32 := 0#32
  let c16_i32 : BitVec 32 := 16#32
  let v12 : BitVec 32 := Scalar.addi c0_i32_6 c16_i32
  let c1_i32 : BitVec 32 := 1#32
  ⟨c0_i32_6, v12, c1_i32⟩
def k0_off4 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v14 : Index := Scalar.indexCast v13
  let c0 : Index := 0#32
  ![v14.toNat, 0]
def k0_off5 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v96 : Index := Scalar.indexCast v13
  let c0_26 : Index := 0#32
  ![v96.toNat, 0]
def k0_off6 (k0_t2 : Fin k0_t2_loop.trips) : Fin 3 → Nat :=
  let c0_27 : Index := 0#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v98 : Index := Scalar.indexCast v13
  let c0_28 : Index := 0#32
  ![0, v98.toNat, 0]
def k0_off7 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v108 : Index := Scalar.indexCast v13
  let c0_31 : Index := 0#32
  ![v108.toNat, 0]
def k0_off8 (k0_t2 : Fin k0_t2_loop.trips) : Fin 3 → Nat :=
  let c1 : Index := 1#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v110 : Index := Scalar.indexCast v13
  let c0_32 : Index := 0#32
  ![1, v110.toNat, 0]
def k0_off9 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v120 : Index := Scalar.indexCast v13
  let c384 : Index := 384#32
  ![v120.toNat, 384]
def k0_off10 (k0_t2 : Fin k0_t2_loop.trips) : Fin 3 → Nat :=
  let c2 : Index := 2#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v122 : Index := Scalar.indexCast v13
  let c0_35 : Index := 0#32
  ![2, v122.toNat, 0]
def k0_off11 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v132 : Index := Scalar.indexCast v13
  let c768 : Index := 768#32
  ![v132.toNat, 768]
def k0_off12 (k0_t2 : Fin k0_t2_loop.trips) : Fin 3 → Nat :=
  let c3 : Index := 3#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v134 : Index := Scalar.indexCast v13
  let c0_38 : Index := 0#32
  ![3, v134.toNat, 0]
def k0_off13 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v144 : Index := Scalar.indexCast v13
  let c1152 : Index := 1152#32
  ![v144.toNat, 1152]
def k0_off14 (k0_t2 : Fin k0_t2_loop.trips) : Fin 3 → Nat :=
  let c4 : Index := 4#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v146 : Index := Scalar.indexCast v13
  let c0_41 : Index := 0#32
  ![4, v146.toNat, 0]
def k0_off15 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v156 : Index := Scalar.indexCast v13
  let c1536 : Index := 1536#32
  ![v156.toNat, 1536]
def k0_off16 (k0_t2 : Fin k0_t2_loop.trips) : Fin 3 → Nat :=
  let c5 : Index := 5#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v158 : Index := Scalar.indexCast v13
  let c0_44 : Index := 0#32
  ![5, v158.toNat, 0]
def k0_off17 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v168 : Index := Scalar.indexCast v13
  let c1920 : Index := 1920#32
  ![v168.toNat, 1920]
def k0_off18 (k0_t2 : Fin k0_t2_loop.trips) : Fin 3 → Nat :=
  let c6 : Index := 6#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v170 : Index := Scalar.indexCast v13
  let c0_47 : Index := 0#32
  ![6, v170.toNat, 0]
def k0_off19 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v180 : Index := Scalar.indexCast v13
  let c2304 : Index := 2304#32
  ![v180.toNat, 2304]
def k0_off20 (k0_t2 : Fin k0_t2_loop.trips) : Fin 3 → Nat :=
  let c7 : Index := 7#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v182 : Index := Scalar.indexCast v13
  let c0_50 : Index := 0#32
  ![7, v182.toNat, 0]
def k0_off21 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v192 : Index := Scalar.indexCast v13
  let c2688 : Index := 2688#32
  ![v192.toNat, 2688]
def k0_off22 (k0_t2 : Fin k0_t2_loop.trips) : Fin 3 → Nat :=
  let c8 : Index := 8#32
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v194 : Index := Scalar.indexCast v13
  let c0_53 : Index := 0#32
  ![8, v194.toNat, 0]
def k0_off23 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let c64_i32 : BitVec 32 := 64#32
  let v13 : BitVec 32 := Scalar.muli arg15 c64_i32
  let v204 : Index := Scalar.indexCast v13
  let c3072 : Index := 3072#32
  ![v204.toNat, 3072]
def k0_cond4 (i : grid0.Coords) : BitVec 1 :=
  let arg0 : BitVec 32 := BitVec.ofNat 32 (i 0).val
  let c9_i32_4 : BitVec 32 := 9#32
  let v9 : BitVec 1 := Scalar.cmpi .sge arg0 c9_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.minsi arg0 c8_i32
  let c9_i32 : BitVec 32 := 9#32
  let v1 : BitVec 32 := Scalar.addi v0 c9_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.minsi arg0 c8_i32
  let c9_i32 : BitVec 32 := 9#32
  let v1 : BitVec 32 := Scalar.addi v0 c9_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3456 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3456 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4x256x5120 : Shape := ⟨3, ![4, 256, 5120]⟩
abbrev S6912x5120 : Shape := ⟨2, ![6912, 5120]⟩
abbrev S6912 : Shape := ⟨1, ![6912]⟩
abbrev S5120x3456 : Shape := ⟨2, ![5120, 3456]⟩
abbrev S5120 : Shape := ⟨1, ![5120]⟩
abbrev S1024x5120 : Shape := ⟨2, ![1024, 5120]⟩
abbrev S1x6912 : Shape := ⟨2, ![1, 6912]⟩
abbrev S1x5120 : Shape := ⟨2, ![1, 5120]⟩
abbrev S1024x1 : Shape := ⟨2, ![1024, 1]⟩
abbrev S1024x3456 : Shape := ⟨2, ![1024, 3456]⟩
abbrev S1024 : Shape := ⟨1, ![1024]⟩
abbrev S1024x6912 : Shape := ⟨2, ![1024, 6912]⟩

abbrev nBuf : Space → Nat
  | .hbm => 13
  | .vmem => 10
  | .smem => 0
  | _ => 0

abbrev bufTy : (tb : Table) → Fin (tcTables nBuf tb) → BufTy
  | .hbm, ⟨0, _⟩ => ⟨S4x256x5120, .bf16⟩
  | .hbm, ⟨1, _⟩ => ⟨S6912x5120, .fp8e4m3⟩
  | .hbm, ⟨2, _⟩ => ⟨S6912, .f32⟩
  | .hbm, ⟨3, _⟩ => ⟨S5120x3456, .fp8e4m3⟩
  | .hbm, ⟨4, _⟩ => ⟨S5120, .f32⟩
  | .hbm, ⟨5, _⟩ => ⟨S1024x5120, .bf16⟩
  | .hbm, ⟨6, _⟩ => ⟨S1x6912, .f32⟩
  | .hbm, ⟨7, _⟩ => ⟨S1x5120, .f32⟩
  | .hbm, ⟨8, _⟩ => ⟨S1024x5120, .bf16⟩
  | .hbm, ⟨9, _⟩ => ⟨S1024x5120, .fp8e4m3⟩
  | .hbm, ⟨10, _⟩ => ⟨S1024x1, .f32⟩
  | .hbm, ⟨11, _⟩ => ⟨S1024x3456, .fp8e4m3⟩
  | .hbm, ⟨12, _⟩ => ⟨S1024x1, .f32⟩
  | .local _ .vmem, ⟨0, _⟩ => ⟨S1024x5120, .bf16⟩
  | .local _ .vmem, ⟨1, _⟩ => ⟨S6912x5120, .fp8e4m3⟩
  | .local _ .vmem, ⟨2, _⟩ => ⟨S1x6912, .f32⟩
  | .local _ .vmem, ⟨3, _⟩ => ⟨S5120x3456, .fp8e4m3⟩
  | .local _ .vmem, ⟨4, _⟩ => ⟨S1x5120, .f32⟩
  | .local _ .vmem, ⟨5, _⟩ => ⟨S1024x5120, .bf16⟩
  | .local _ .vmem, ⟨6, _⟩ => ⟨S1024x5120, .fp8e4m3⟩
  | .local _ .vmem, ⟨7, _⟩ => ⟨S1024x1, .f32⟩
  | .local _ .vmem, ⟨8, _⟩ => ⟨S1024x3456, .fp8e4m3⟩
  | .local _ .vmem, ⟨9, _⟩ => ⟨S1024x1, .f32⟩
  | _, _ => ⟨S4x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x3456 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x3456 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelTrips.lean ====
module

public import proofs.«01_k».proof.Proof.Gen.Kernel.Frame
public import proofs.«01_k».proof.Proof.Gen.Kernel.Loops
public import Idealize.ShloMosaic.Lib.Pointwise

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The codes one trip of the first loop stores for its 64 rows. -/
def rowXC (v : Vec F S64x5120 .bf16) : FVec F S64x5120 .fp8e4m3 :=
  k0_pay1 (k0_pay15 (k0_pay7 v) (k0_pay8 v) (k0_pay9 v) (k0_pay10 v) (k0_pay11 v) (k0_pay12 v)) (Scalar.ofBits .f32 0xC3E00000#32)

/-- The scales one trip of the first loop stores for its 64 rows. -/
def rowXS (v : Vec F S64x5120 .bf16) : FVec F S64x1 .f32 :=
  k0_pay14 (k0_pay8 v) (k0_pay9 v) (k0_pay10 v) (k0_pay11 v) (k0_pay12 v)

/-- The pieces one trip of the first loop writes: the 64 rows' codes and scales. -/
theorem tripL1_eq (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k
      = ([⟨Rect.unit (s := S1024x5120) (k0_off1 k) S64x5120.size (k0_off1_inb i k k0_h1), rowXC (View.ld (arg1.view.read (Elt F) X_arg1) (Rect.unit (s := S1024x5120) (k0_off1 k) S64x5120.size (k0_off1_inb i k k0_h1)))⟩],
         [⟨Rect.unit (s := S1024x1) (k0_off2 k) S64x1.size (k0_off2_inb i k k0_h1), rowXS (View.ld (arg1.view.read (Elt F) X_arg1) (Rect.unit (s := S1024x5120) (k0_off1 k) S64x5120.size (k0_off1_inb i k k0_h1)))⟩]) := by
  unfold tripL_k0_t1 trip_k0_t1
  rfl

/-- The scale the second loop stores for its 64 rows. -/
def rowHS (m : Vec F S64x128 .f32) : FVec F S64x1 .f32 := k0_pay23 (k0_pay19 m) (k0_pay20 m) (k0_pay21 m) 4#32
/-- The inverse scale the second loop multiplies its 64 rows by. -/
def rowHI (m : Vec F S64x128 .f32) : FVec F S64x1 .f32 := k0_pay24 (k0_pay19 m) (k0_pay20 m) (k0_pay21 m) 4#32

/-- The codes the second loop stores for one 64-row, 384-lane tile of the hidden rows. -/
def rowHC (inv : FVec F S64x1 .f32) (h : Vec F S1x64x384 .f32) : FVec F S64x384 .fp8e4m3 := k0_pay25 inv h

/-- The pieces one trip of the second loop writes: nine tiles of codes and the 64 rows' scales. -/
theorem tripL2_eq (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k
      = ([⟨Rect.unit (s := S1024x3456) (k0_off23 k) S64x384.size (k0_off23_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off22 k) S1x64x384.size (k0_off22_inb i k k0_h3)))⟩,
          ⟨Rect.unit (s := S1024x3456) (k0_off21 k) S64x384.size (k0_off21_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off20 k) S1x64x384.size (k0_off20_inb i k k0_h3)))⟩,
          ⟨Rect.unit (s := S1024x3456) (k0_off19 k) S64x384.size (k0_off19_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off18 k) S1x64x384.size (k0_off18_inb i k k0_h3)))⟩,
          ⟨Rect.unit (s := S1024x3456) (k0_off17 k) S64x384.size (k0_off17_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off16 k) S1x64x384.size (k0_off16_inb i k k0_h3)))⟩,
          ⟨Rect.unit (s := S1024x3456) (k0_off15 k) S64x384.size (k0_off15_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off14 k) S1x64x384.size (k0_off14_inb i k k0_h3)))⟩,
          ⟨Rect.unit (s := S1024x3456) (k0_off13 k) S64x384.size (k0_off13_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off12 k) S1x64x384.size (k0_off12_inb i k k0_h3)))⟩,
          ⟨Rect.unit (s := S1024x3456) (k0_off11 k) S64x384.size (k0_off11_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off10 k) S1x64x384.size (k0_off10_inb i k k0_h3)))⟩,
          ⟨Rect.unit (s := S1024x3456) (k0_off9 k) S64x384.size (k0_off9_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off8 k) S1x64x384.size (k0_off8_inb i k k0_h3)))⟩,
          ⟨Rect.unit (s := S1024x3456) (k0_off7 k) S64x384.size (k0_off7_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off6 k) S1x64x384.size (k0_off6_inb i k k0_h3)))⟩],
         [⟨Rect.unit (s := S1024x1) (k0_off5 k) S64x1.size (k0_off5_inb i k k0_h3), rowHS (View.ld (arg14.view.read (Elt F) X_arg14) (Rect.unit (s := S1024x128) (k0_off4 k) S64x128.size (k0_off4_inb i k k0_h3)))⟩]) := by
  unfold tripL_k0_t2 trip_k0_t2
  rfl

/-! ## What the two loops leave -/

/-- Rows `64 k` to `64 k + 63` of a 1024-row array. -/
def rows64 {n : ℕ} {e : EltTy} (x : (⟨2, ![1024, n]⟩ : Shape).Idx → Elt F e) (k : ℕ) (hk : k < 16) : (⟨2, ![64, n]⟩ : Shape).Idx → Elt F e :=
  fun z => x (ix2 (⟨64 * k + (z 0).val, by have := (z 0).isLt; simp only [Shape.size, Matrix.cons_val_zero] at this; omega⟩ : Fin 1024) (z 1 : Fin n))

/-- Rows `64 k` to `64 k + 63` of plane `j` of the hidden scratch. -/
def tile64 {e : EltTy} (h : S9x1024x384.Idx → Elt F e) (j : Fin 9) (k : ℕ) (hk : k < 16) : S1x64x384.Idx → Elt F e :=
  fun z => h (ix3 j (⟨64 * k + (z 1).val, by have := (z 1).isLt; simp only [Shape.size, Matrix.cons_val_one, Matrix.cons_val_zero] at this; omega⟩ : Fin 1024) (z 2 : Fin 384))

/-- The codes of all 1024 rows of `x`, as the first loop leaves them. -/
def XC (x : Vec F S1024x5120 .bf16) : FVec F S1024x5120 .fp8e4m3 := fun y =>
  rowXC (rows64 x ((y 0).val / 64) (by have := (y 0).isLt; simp only [Shape.size, Matrix.cons_val_zero] at this; omega)) (ix2 (⟨(y 0).val % 64, Nat.mod_lt _ (by decide)⟩ : Fin 64) (y 1 : Fin 5120))

/-- The scales of all 1024 rows of `x`, as the first loop leaves them. -/
def XS (x : Vec F S1024x5120 .bf16) : FVec F S1024x1 .f32 := fun y =>
  rowXS (rows64 x ((y 0).val / 64) (by have := (y 0).isLt; simp only [Shape.size, Matrix.cons_val_zero] at this; omega)) (ix2 (⟨(y 0).val % 64, Nat.mod_lt _ (by decide)⟩ : Fin 64) (y 1 : Fin 1))

/-- The codes of all 1024 hidden rows, as the second loop leaves them. -/
def HC (h : Vec F S9x1024x384 .f32) (mx : Vec F S1024x128 .f32) : FVec F S1024x3456 .fp8e4m3 := fun y =>
  rowHC (rowHI (rows64 mx ((y 0).val / 64) (by have := (y 0).isLt; simp only [Shape.size, Matrix.cons_val_zero] at this; omega)))
    (tile64 h ⟨(y 1).val / 384, by have := (y 1).isLt; simp only [Shape.size, Matrix.cons_val_one, Matrix.cons_val_zero] at this; omega⟩ ((y 0).val / 64) (by have := (y 0).isLt; simp only [Shape.size, Matrix.cons_val_zero] at this; omega))
    (ix2 (⟨(y 0).val % 64, Nat.mod_lt _ (by decide)⟩ : Fin 64) (⟨(y 1).val % 384, Nat.mod_lt _ (by decide)⟩ : Fin 384))

/-- The scales of all 1024 hidden rows, as the second loop leaves them. -/
def HS (mx : Vec F S1024x128 .f32) : FVec F S1024x1 .f32 := fun y =>
  rowHS (rows64 mx ((y 0).val / 64) (by have := (y 0).isLt; simp only [Shape.size, Matrix.cons_val_zero] at this; omega)) (ix2 (⟨(y 0).val % 64, Nat.mod_lt _ (by decide)⟩ : Fin 64) (y 1 : Fin 1))

/-- A load of rows `64 k …` of a 1024-row array is `rows64`. -/
theorem ld_rows {n : ℕ} {e : EltTy} (x : (⟨2, ![1024, n]⟩ : Shape).Idx → Elt F e) (k : ℕ) (hk : k < 16) (off : Fin 2 → ℕ) (hoff : off = ![64 * k, 0])
    (inb : ∀ a, off a + (![64, n] : Fin 2 → ℕ) a ≤ (![1024, n] : Fin 2 → ℕ) a) :
    View.ld x (Rect.unit (s := ⟨2, ![1024, n]⟩) off ![64, n] inb) = rows64 x k hk := by
  subst hoff
  funext z
  unfold rows64 View.ld
  congr 1
  funext a
  apply Fin.ext
  fin_cases a
  · show (![64 * k, 0] : Fin 2 → ℕ) 0 + 1 * _ = 64 * k + _
    simp
  · show (![64 * k, 0] : Fin 2 → ℕ) 1 + 1 * _ = _
    simp

/-- A load of rows `64 k …` of plane `j` is `tile64`. -/
theorem ld_tile {e : EltTy} (h : S9x1024x384.Idx → Elt F e) (j : Fin 9) (k : ℕ) (hk : k < 16) (off : Fin 3 → ℕ) (hoff : off = ![j.val, 64 * k, 0])
    (inb : ∀ a, off a + S1x64x384.size a ≤ S9x1024x384.size a) :
    View.ld h (Rect.unit (s := S9x1024x384) off S1x64x384.size inb) = tile64 h j k hk := by
  subst hoff
  funext z
  unfold tile64 View.ld
  congr 1
  funext a
  apply Fin.ext
  fin_cases a
  · have h0 : (z 0).val < 1 := (z 0).isLt
    show (![j.val, 64 * k, 0] : Fin 3 → ℕ) 0 + 1 * (z 0).val = j.val
    simp; omega
  · show (![j.val, 64 * k, 0] : Fin 3 → ℕ) 1 + 1 * (z 1).val = 64 * k + (z 1).val
    simp
  · show (![j.val, 64 * k, 0] : Fin 3 → ℕ) 2 + 1 * (z 2).val = (z 2).val
    simp

/-- A block of rows `64 k …`, columns `c …`, of a function given by its 64-row, `w`-column tiles: the tile. -/
theorem emb_rows {N w n : ℕ} (k c : ℕ) (off : Fin 2 → ℕ) (hoff : off = ![64 * k, w * c])
    (inb : ∀ a, off a + (![64, w] : Fin 2 → ℕ) a ≤ (![N, n] : Fin 2 → ℕ) a) (z : (⟨2, ![64, w]⟩ : Shape).Idx) :
    (((Rect.unit (s := ⟨2, ![N, n]⟩) off ![64, w] inb).emb z) 0).val = 64 * k + (z 0).val
    ∧ (((Rect.unit (s := ⟨2, ![N, n]⟩) off ![64, w] inb).emb z) 1).val = w * c + (z 1).val := by
  subst hoff
  constructor
  · show (![64 * k, w * c] : Fin 2 → ℕ) 0 + 1 * _ = 64 * k + _
    simp
  · show (![64 * k, w * c] : Fin 2 → ℕ) 1 + 1 * _ = w * c + _
    simp

/-- Membership of an index in a row-and-column block. -/
theorem mem_rows {N w n : ℕ} (k c : ℕ) (off : Fin 2 → ℕ) (hoff : off = ![64 * k, w * c])
    (inb : ∀ a, off a + (![64, w] : Fin 2 → ℕ) a ≤ (![N, n] : Fin 2 → ℕ) a) (y : (⟨2, ![N, n]⟩ : Shape).Idx)
    (h0 : 64 * k ≤ (y 0).val) (h0' : (y 0).val < 64 * k + 64) (h1 : w * c ≤ (y 1).val) (h1' : (y 1).val < w * c + w) :
    y ∈ (Rect.unit (s := ⟨2, ![N, n]⟩) off ![64, w] inb).set := by
  subst hoff
  rw [Rect.mem_set_unit]
  intro a
  fin_cases a
  · exact ⟨h0, h0'⟩
  · exact ⟨h1, h1'⟩

/-- The first loop makes sixteen trips. -/
theorem trips1 : k0_t1_loop.trips = 16 := by decide +kernel
/-- The second loop makes sixteen trips. -/
theorem trips2 : k0_t2_loop.trips = 16 := by decide +kernel

/-- An index pair is the index with those coordinates. -/
theorem ix2_of {n0 n1 : ℕ} (z : (⟨2, ![n0, n1]⟩ : Shape).Idx) (a : Fin n0) (b : Fin n1) (h0 : a.val = (z 0).val) (h1 : b.val = (z 1).val) : ix2 a b = z := by
  rw [eq_ix2 z]
  exact congrArg₂ ix2 (Fin.ext h0) (Fin.ext h1)

/-- A 64-row block of `XC x` is the row function of the block's rows. -/
theorem XC_block (x : Vec F S1024x5120 .bf16) (k : ℕ) (hk : k < 16) (y : S1024x5120.Idx) (z : S64x5120.Idx)
    (h0 : (y 0).val = 64 * k + (z 0).val) (h1 : (y 1).val = (z 1).val) : XC x y = rowXC (rows64 x k hk) z := by
  have hz : (z 0).val < 64 := (z 0).isLt
  have hd : k = (y 0).val / 64 := by omega
  subst hd
  exact congrArg (rowXC _) (ix2_of z _ _ (by show (y 0).val % 64 = _; omega) h1)

/-- A 64-row block of `XS x` is the row function of the block's rows. -/
theorem XS_block (x : Vec F S1024x5120 .bf16) (k : ℕ) (hk : k < 16) (y : S1024x1.Idx) (z : S64x1.Idx)
    (h0 : (y 0).val = 64 * k + (z 0).val) (h1 : (y 1).val = (z 1).val) : XS x y = rowXS (rows64 x k hk) z := by
  have hz : (z 0).val < 64 := (z 0).isLt
  have hd : k = (y 0).val / 64 := by omega
  subst hd
  exact congrArg (rowXS _) (ix2_of z _ _ (by show (y 0).val % 64 = _; omega) h1)

/-- A 64-row block of `HS mx` is the row function of the block's rows. -/
theorem HS_block (mx : Vec F S1024x128 .f32) (k : ℕ) (hk : k < 16) (y : S1024x1.Idx) (z : S64x1.Idx)
    (h0 : (y 0).val = 64 * k + (z 0).val) (h1 : (y 1).val = (z 1).val) : HS mx y = rowHS (rows64 mx k hk) z := by
  have hz : (z 0).val < 64 := (z 0).isLt
  have hd : k = (y 0).val / 64 := by omega
  subst hd
  exact congrArg (rowHS _) (ix2_of z _ _ (by show (y 0).val % 64 = _; omega) h1)

/-- A tile of `HC h mx` is the tile function of the tile's rows. -/
theorem HC_block (h : Vec F S9x1024x384 .f32) (mx : Vec F S1024x128 .f32) (j : Fin 9) (k : ℕ) (hk : k < 16) (y : S1024x3456.Idx) (z : S64x384.Idx)
    (h0 : (y 0).val = 64 * k + (z 0).val) (h1 : (y 1).val = 384 * j.val + (z 1).val) :
    HC h mx y = rowHC (rowHI (rows64 mx k hk)) (tile64 h j k hk) z := by
  have hz : (z 0).val < 64 := (z 0).isLt
  have hz1 : (z 1).val < 384 := (z 1).isLt
  have hd : k = (y 0).val / 64 := by omega
  subst hd
  have hd1 : (⟨(y 1).val / 384, by have : (y 1).val < 3456 := (y 1).isLt; omega⟩ : Fin 9) = j := Fin.ext (by show (y 1).val / 384 = j.val; omega)
  unfold HC
  rw [hd1]
  exact congrArg (rowHC _ _) (ix2_of z _ _ (by show (y 0).val % 64 = _; omega) (by show (y 1).val % 384 = _; omega))

/-- The first loop's pieces after `n` trips: each a block of `XC`, `XS`, together covering the first `64 n` rows. -/
theorem pb1_spec (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (n : ℕ) (hn : n ≤ 16) :
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).1, ∀ x : p.1.shape.Idx, p.2 x = XC (arg1.view.read (Elt F) X_arg1) (p.1.emb x))
      ∧ (∀ y : S1024x5120.Idx, (y 0).val < 64 * n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).1, y ∈ p.1.set))
    ∧ ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).2, ∀ x : p.1.shape.Idx, p.2 x = XS (arg1.view.read (Elt F) X_arg1) (p.1.emb x))
      ∧ (∀ y : S1024x1.Idx, (y 0).val < 64 * n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).2, y ∈ p.1.set)) := by
  induction n with
  | zero => exact ⟨⟨fun p hp => absurd hp List.not_mem_nil, fun y hy => absurd hy (by omega)⟩, ⟨fun p hp => absurd hp List.not_mem_nil, fun y hy => absurd hy (by omega)⟩⟩
  | succ n ih =>
    obtain ⟨⟨a1, a2⟩, b1, b2⟩ := ih (by omega)
    have hn' : n < k0_t1_loop.trips := by rw [trips1]; omega
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 ⟨n, hn'⟩
    rw [tripL1_eq] at e
    simp only at e
    rw [e]
    refine ⟨⟨fun p hp x => ?_, fun y hy => ?_⟩, fun p hp x => ?_, fun y hy => ?_⟩
    · rcases List.mem_cons.mp hp with rfl | hp
      · obtain ⟨e0, e1⟩ := emb_rows (N := 1024) (w := 5120) (n := 5120) n 0 _ (k0_off1_eq ⟨n, hn'⟩) (k0_off1_inb i ⟨n, hn'⟩ k0_h1) x
        rw [XC_block _ n (by omega) _ x e0 (by rw [e1]; omega)]
        exact congrFun (congrArg rowXC (ld_rows _ n (by omega) _ (k0_off1_eq ⟨n, hn'⟩) _)) x
      · exact a1 p hp x
    · by_cases hy' : (y 0).val < 64 * n
      · obtain ⟨p, hp, hm⟩ := a2 y hy'
        exact ⟨p, List.mem_cons_of_mem _ hp, hm⟩
      · have hy1 : (y 1).val < 5120 := (y 1).isLt
        exact ⟨_, List.mem_cons_self, mem_rows (N := 1024) (w := 5120) (n := 5120) n 0 _ (k0_off1_eq ⟨n, hn'⟩) (k0_off1_inb i ⟨n, hn'⟩ k0_h1) y (by omega) (by omega) (by omega) (by omega)⟩
    · rcases List.mem_cons.mp hp with rfl | hp
      · obtain ⟨e0, e1⟩ := emb_rows (N := 1024) (w := 1) (n := 1) n 0 _ (k0_off2_eq ⟨n, hn'⟩) (k0_off2_inb i ⟨n, hn'⟩ k0_h1) x
        rw [XS_block _ n (by omega) _ x e0 (by rw [e1]; omega)]
        exact congrFun (congrArg rowXS (ld_rows _ n (by omega) _ (k0_off1_eq ⟨n, hn'⟩) _)) x
      · exact b1 p hp x
    · by_cases hy' : (y 0).val < 64 * n
      · obtain ⟨p, hp, hm⟩ := b2 y hy'
        exact ⟨p, List.mem_cons_of_mem _ hp, hm⟩
      · have hy1 : (y 1).val < 1 := (y 1).isLt
        exact ⟨_, List.mem_cons_self, mem_rows (N := 1024) (w := 1) (n := 1) n 0 _ (k0_off2_eq ⟨n, hn'⟩) (k0_off2_inb i ⟨n, hn'⟩ k0_h1) y (by omega) (by omega) (by omega) (by omega)⟩

set_option maxHeartbeats 1000000 in
/-- The second loop's pieces after `n` trips: each a block of `HC`, `HS`, together covering the first `64 n` rows. -/
theorem pb2_spec (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (n : ℕ) (hn : n ≤ 16) :
    ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).1, ∀ x : p.1.shape.Idx, p.2 x = HC (arg13.view.read (Elt F) X_arg13) (arg14.view.read (Elt F) X_arg14) (p.1.emb x))
      ∧ (∀ y : S1024x3456.Idx, (y 0).val < 64 * n → ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).1, y ∈ p.1.set))
    ∧ ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).2, ∀ x : p.1.shape.Idx, p.2 x = HS (arg14.view.read (Elt F) X_arg14) (p.1.emb x))
      ∧ (∀ y : S1024x1.Idx, (y 0).val < 64 * n → ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).2, y ∈ p.1.set)) := by
  induction n with
  | zero => exact ⟨⟨fun p hp => absurd hp List.not_mem_nil, fun y hy => absurd hy (by omega)⟩, ⟨fun p hp => absurd hp List.not_mem_nil, fun y hy => absurd hy (by omega)⟩⟩
  | succ n ih =>
    obtain ⟨⟨a1, a2⟩, b1, b2⟩ := ih (by omega)
    have hn' : n < k0_t2_loop.trips := by rw [trips2]; omega
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 ⟨n, hn'⟩
    rw [tripL2_eq] at e
    simp only at e
    rw [e]
    refine ⟨⟨fun p hp x => ?_, fun y hy => ?_⟩, fun p hp x => ?_, fun y hy => ?_⟩
    · simp only [List.cons_append, List.nil_append, List.mem_cons] at hp
      rcases hp with rfl | rfl | rfl | rfl | rfl | rfl | rfl | rfl | rfl | hp
      · obtain ⟨e0, e1⟩ := emb_rows (N := 1024) (w := 384) (n := 3456) n 8 _ (k0_off23_eq ⟨n, hn'⟩) (k0_off23_inb i ⟨n, hn'⟩ k0_h3) x
        rw [HC_block _ _ 8 n (by omega) _ x e0 e1]
        exact congrFun (congrArg₂ rowHC (congrArg rowHI (ld_rows _ n (by omega) _ (k0_off4_eq ⟨n, hn'⟩) _)) (ld_tile _ 8 n (by omega) _ (k0_off22_eq ⟨n, hn'⟩) _)) x
      · obtain ⟨e0, e1⟩ := emb_rows (N := 1024) (w := 384) (n := 3456) n 7 _ (k0_off21_eq ⟨n, hn'⟩) (k0_off21_inb i ⟨n, hn'⟩ k0_h3) x
        rw [HC_block _ _ 7 n (by omega) _ x e0 e1]
        exact congrFun (congrArg₂ rowHC (congrArg rowHI (ld_rows _ n (by omega) _ (k0_off4_eq ⟨n, hn'⟩) _)) (ld_tile _ 7 n (by omega) _ (k0_off20_eq ⟨n, hn'⟩) _)) x
      · obtain ⟨e0, e1⟩ := emb_rows (N := 1024) (w := 384) (n := 3456) n 6 _ (k0_off19_eq ⟨n, hn'⟩) (k0_off19_inb i ⟨n, hn'⟩ k0_h3) x
        rw [HC_block _ _ 6 n (by omega) _ x e0 e1]
        exact congrFun (congrArg₂ rowHC (congrArg rowHI (ld_rows _ n (by omega) _ (k0_off4_eq ⟨n, hn'⟩) _)) (ld_tile _ 6 n (by omega) _ (k0_off18_eq ⟨n, hn'⟩) _)) x
      · obtain ⟨e0, e1⟩ := emb_rows (N := 1024) (w := 384) (n := 3456) n 5 _ (k0_off17_eq ⟨n, hn'⟩) (k0_off17_inb i ⟨n, hn'⟩ k0_h3) x
        rw [HC_block _ _ 5 n (by omega) _ x e0 e1]
        exact congrFun (congrArg₂ rowHC (congrArg rowHI (ld_rows _ n (by omega) _ (k0_off4_eq ⟨n, hn'⟩) _)) (ld_tile _ 5 n (by omega) _ (k0_off16_eq ⟨n, hn'⟩) _)) x
      · obtain ⟨e0, e1⟩ := emb_rows (N := 1024) (w := 384) (n := 3456) n 4 _ (k0_off15_eq ⟨n, hn'⟩) (k0_off15_inb i ⟨n, hn'⟩ k0_h3) x
        rw [HC_block _ _ 4 n (by omega) _ x e0 e1]
        exact congrFun (congrArg₂ rowHC (congrArg rowHI (ld_rows _ n (by omega) _ (k0_off4_eq ⟨n, hn'⟩) _)) (ld_tile _ 4 n (by omega) _ (k0_off14_eq ⟨n, hn'⟩) _)) x
      · obtain ⟨e0, e1⟩ := emb_rows (N := 1024) (w := 384) (n := 3456) n 3 _ (k0_off13_eq ⟨n, hn'⟩) (k0_off13_inb i ⟨n, hn'⟩ k0_h3) x
        rw [HC_block _ _ 3 n (by omega) _ x e0 e1]
        exact congrFun (congrArg₂ rowHC (congrArg rowHI (ld_rows _ n (by omega) _ (k0_off4_eq ⟨n, hn'⟩) _)) (ld_tile _ 3 n (by omega) _ (k0_off12_eq ⟨n, hn'⟩) _)) x
      · obtain ⟨e0, e1⟩ := emb_rows (N := 1024) (w := 384) (n := 3456) n 2 _ (k0_off11_eq ⟨n, hn'⟩) (k0_off11_inb i ⟨n, hn'⟩ k0_h3) x
        rw [HC_block _ _ 2 n (by omega) _ x e0 e1]
        exact congrFun (congrArg₂ rowHC (congrArg rowHI (ld_rows _ n (by omega) _ (k0_off4_eq ⟨n, hn'⟩) _)) (ld_tile _ 2 n (by omega) _ (k0_off10_eq ⟨n, hn'⟩) _)) x
      · obtain ⟨e0, e1⟩ := emb_rows (N := 1024) (w := 384) (n := 3456) n 1 _ (k0_off9_eq ⟨n, hn'⟩) (k0_off9_inb i ⟨n, hn'⟩ k0_h3) x
        rw [HC_block _ _ 1 n (by omega) _ x e0 e1]
        exact congrFun (congrArg₂ rowHC (congrArg rowHI (ld_rows _ n (by omega) _ (k0_off4_eq ⟨n, hn'⟩) _)) (ld_tile _ 1 n (by omega) _ (k0_off8_eq ⟨n, hn'⟩) _)) x
      · obtain ⟨e0, e1⟩ := emb_rows (N := 1024) (w := 384) (n := 3456) n 0 _ (k0_off7_eq ⟨n, hn'⟩) (k0_off7_inb i ⟨n, hn'⟩ k0_h3) x
        rw [HC_block _ _ 0 n (by omega) _ x e0 e1]
        exact congrFun (congrArg₂ rowHC (congrArg rowHI (ld_rows _ n (by omega) _ (k0_off4_eq ⟨n, hn'⟩) _)) (ld_tile _ 0 n (by omega) _ (k0_off6_eq ⟨n, hn'⟩) _)) x
      · exact a1 p hp x
    · by_cases hy' : (y 0).val < 64 * n
      · obtain ⟨p, hp, hm⟩ := a2 y hy'
        exact ⟨p, List.mem_append_right _ hp, hm⟩
      · have hy1 : (y 1).val < 3456 := (y 1).isLt
        have hc : (y 1).val / 384 = 0 ∨ (y 1).val / 384 = 1 ∨ (y 1).val / 384 = 2 ∨ (y 1).val / 384 = 3 ∨ (y 1).val / 384 = 4 ∨ (y 1).val / 384 = 5 ∨ (y 1).val / 384 = 6 ∨ (y 1).val / 384 = 7 ∨ (y 1).val / 384 = 8 := by omega
        rcases hc with hc | hc | hc | hc | hc | hc | hc | hc | hc
        · exact ⟨_, List.mem_of_getElem? (i := 8) rfl, mem_rows (N := 1024) (w := 384) (n := 3456) n 0 _ (k0_off7_eq ⟨n, hn'⟩) (k0_off7_inb i ⟨n, hn'⟩ k0_h3) y (by omega) (by omega) (by omega) (by omega)⟩
        · exact ⟨_, List.mem_of_getElem? (i := 7) rfl, mem_rows (N := 1024) (w := 384) (n := 3456) n 1 _ (k0_off9_eq ⟨n, hn'⟩) (k0_off9_inb i ⟨n, hn'⟩ k0_h3) y (by omega) (by omega) (by omega) (by omega)⟩
        · exact ⟨_, List.mem_of_getElem? (i := 6) rfl, mem_rows (N := 1024) (w := 384) (n := 3456) n 2 _ (k0_off11_eq ⟨n, hn'⟩) (k0_off11_inb i ⟨n, hn'⟩ k0_h3) y (by omega) (by omega) (by omega) (by omega)⟩
        · exact ⟨_, List.mem_of_getElem? (i := 5) rfl, mem_rows (N := 1024) (w := 384) (n := 3456) n 3 _ (k0_off13_eq ⟨n, hn'⟩) (k0_off13_inb i ⟨n, hn'⟩ k0_h3) y (by omega) (by omega) (by omega) (by omega)⟩
        · exact ⟨_, List.mem_of_getElem? (i := 4) rfl, mem_rows (N := 1024) (w := 384) (n := 3456) n 4 _ (k0_off15_eq ⟨n, hn'⟩) (k0_off15_inb i ⟨n, hn'⟩ k0_h3) y (by omega) (by omega) (by omega) (by omega)⟩
        · exact ⟨_, List.mem_of_getElem? (i := 3) rfl, mem_rows (N := 1024) (w := 384) (n := 3456) n 5 _ (k0_off17_eq ⟨n, hn'⟩) (k0_off17_inb i ⟨n, hn'⟩ k0_h3) y (by omega) (by omega) (by omega) (by omega)⟩
        · exact ⟨_, List.mem_of_getElem? (i := 2) rfl, mem_rows (N := 1024) (w := 384) (n := 3456) n 6 _ (k0_off19_eq ⟨n, hn'⟩) (k0_off19_inb i ⟨n, hn'⟩ k0_h3) y (by omega) (by omega) (by omega) (by omega)⟩
        · exact ⟨_, List.mem_of_getElem? (i := 1) rfl, mem_rows (N := 1024) (w := 384) (n := 3456) n 7 _ (k0_off21_eq ⟨n, hn'⟩) (k0_off21_inb i ⟨n, hn'⟩ k0_h3) y (by omega) (by omega) (by omega) (by omega)⟩
        · exact ⟨_, List.mem_of_getElem? (i := 0) rfl, mem_rows (N := 1024) (w := 384) (n := 3456) n 8 _ (k0_off23_eq ⟨n, hn'⟩) (k0_off23_inb i ⟨n, hn'⟩ k0_h3) y (by omega) (by omega) (by omega) (by omega)⟩
    · rcases List.mem_cons.mp hp with rfl | hp
      · obtain ⟨e0, e1⟩ := emb_rows (N := 1024) (w := 1) (n := 1) n 0 _ (k0_off5_eq ⟨n, hn'⟩) (k0_off5_inb i ⟨n, hn'⟩ k0_h3) x
        rw [HS_block _ n (by omega) _ x e0 (by rw [e1]; omega)]
        exact congrFun (congrArg rowHS (ld_rows _ n (by omega) _ (k0_off4_eq ⟨n, hn'⟩) _)) x
      · exact b1 p hp x
    · by_cases hy' : (y 0).val < 64 * n
      · obtain ⟨p, hp, hm⟩ := b2 y hy'
        exact ⟨p, List.mem_cons_of_mem _ hp, hm⟩
      · have hy1 : (y 1).val < 1 := (y 1).isLt
        exact ⟨_, List.mem_cons_self, mem_rows (N := 1024) (w := 1) (n := 1) n 0 _ (k0_off5_eq ⟨n, hn'⟩) (k0_off5_inb i ⟨n, hn'⟩ k0_h3) y (by omega) (by omega) (by omega) (by omega)⟩

/-- After the first loop the codes buffer reads `XC`, whatever it held. -/
theorem read_loop1_codes (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k0_t1_loop.trips).1) = XC (arg1.view.read (Elt F) X_arg1) := by
  rw [trips1]
  obtain ⟨⟨a1, a2⟩, -⟩ := pb1_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16 le_rfl
  have hc : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16).1, y ∈ p.1.set := fun y => a2 y (by have : (y 0).val < 1024 := (y 0).isLt; omega)
  rw [View.read_writes_eq_canon _ _ _ hc]
  funext y
  exact View.canon_apply_of_pieces _ _ a1 y (hc y)

/-- After the first loop the scales buffer reads `XS`, whatever it held. -/
theorem read_loop1_scales (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (G : BufTy.Contents (Elt F) arg10.view.ty) :
    arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k0_t1_loop.trips).2) = XS (arg1.view.read (Elt F) X_arg1) := by
  rw [trips1]
  obtain ⟨-, a1, a2⟩ := pb1_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16 le_rfl
  have hc : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16).2, y ∈ p.1.set := fun y => a2 y (by have : (y 0).val < 1024 := (y 0).isLt; omega)
  rw [View.read_writes_eq_canon _ _ _ hc]
  funext y
  exact View.canon_apply_of_pieces _ _ a1 y (hc y)

/-- After the second loop the hidden codes buffer reads `HC`, whatever it held. -/
theorem read_loop2_codes (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (G : BufTy.Contents (Elt F) arg11.view.ty) :
    arg11.view.read (Elt F) (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k0_t2_loop.trips).1) = HC (arg13.view.read (Elt F) X_arg13) (arg14.view.read (Elt F) X_arg14) := by
  rw [trips2]
  obtain ⟨⟨a1, a2⟩, -⟩ := pb2_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16 le_rfl
  have hc : ∀ y, ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16).1, y ∈ p.1.set := fun y => a2 y (by have : (y 0).val < 1024 := (y 0).isLt; omega)
  rw [View.read_writes_eq_canon _ _ _ hc]
  funext y
  exact View.canon_apply_of_pieces _ _ a1 y (hc y)

/-- After the second loop the hidden scales buffer reads `HS`, whatever it held. -/
theorem read_loop2_scales (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (G : BufTy.Contents (Elt F) arg12.view.ty) :
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k0_t2_loop.trips).2) = HS (arg14.view.read (Elt F) X_arg14) := by
  rw [trips2]
  obtain ⟨-, a1, a2⟩ := pb2_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16 le_rfl
  have hc : ∀ y, ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16).2, y ∈ p.1.set := fun y => a2 y (by have : (y 0).val < 1024 := (y 0).isLt; omega)
  rw [View.read_writes_eq_canon _ _ _ hc]
  funext y
  exact View.canon_apply_of_pieces _ _ a1 y (hc y)

end Cert.Kernel.Gen

end
-- ==== Proof.KernelBody.lean ====
module

public import proofs.«01_k».proof.Proof.KernelTrips
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The hidden tile point `i` computes from the codes, the scales and the point's two weight tiles with their scales. -/
def tileH (xs : Vec F S1024x1 .f32) (xc : Vec F S1024x5120 .fp8e4m3) (wg : Vec F S384x5120 .fp8e4m3) (sg : Vec F S1x384 .f32) (wu : Vec F S384x5120 .fp8e4m3) (su : Vec F S1x384 .f32) : FVec F S1x1024x384 .f32 :=
  k0_pay17 xs xc wg sg xc wu su

/-- The lane-wise running maximum after a point. -/
def stepM (xs : Vec F S1024x1 .f32) (xc : Vec F S1024x5120 .fp8e4m3) (wg : Vec F S384x5120 .fp8e4m3) (sg : Vec F S1x384 .f32) (wu : Vec F S384x5120 .fp8e4m3) (su : Vec F S1x384 .f32) (mx : Vec F S1024x128 .f32) : FVec F S1024x128 .f32 :=
  k0_pay3 (k0_pay18 xs xc wg sg xc wu su) mx

/-- The hidden scratch with plane `(i 0)` replaced. -/
def putH (i : grid0.Coords) (h : Vec F S9x1024x384 .f32) (p : FVec F S1x1024x384 .f32) : Vec F S9x1024x384 .f32 :=
  fun y => if (y 0).val = (i 0).val then p (ix3 (0 : Fin 1) (y 1 : Fin 1024) (y 2 : Fin 384)) else h y

/-- A store of one plane of the hidden scratch reads as the plane put in. -/
theorem read_putH (arg13 : Memref sig .tc .vmem S9x1024x384 .f32) (i : grid0.Coords) (inb : ∀ a, (k0_off3 i) a + S1x1024x384.size a ≤ S9x1024x384.size a) (f : BufTy.Contents (Elt F) arg13.view.ty) (p : FVec F S1x1024x384 .f32) :
    arg13.view.read (Elt F) (arg13.view.writes (Elt F) f [⟨Rect.unit (s := S9x1024x384) (k0_off3 i) S1x1024x384.size inb, p⟩]) = putH i (arg13.view.read (Elt F) f) p := by
  funext y
  unfold putH
  have ho := k0_off3_eq i
  by_cases hy : (y 0).val = (i 0).val
  · rw [if_pos hy]
    have hm : y = (Rect.unit (s := S9x1024x384) (k0_off3 i) S1x1024x384.size inb).idx (ix3 (0 : Fin 1) (y 1 : Fin 1024) (y 2 : Fin 384)) := by
      funext a
      apply Fin.ext
      fin_cases a
      · show (y 0).val = (k0_off3 i) 0 + 1 * 0
        rw [ho]; simpa using hy
      · show (y 1).val = (k0_off3 i) 1 + 1 * (y 1).val
        rw [ho]; simp
      · show (y 2).val = (k0_off3 i) 2 + 1 * (y 2).val
        rw [ho]; simp
    conv_lhs => rw [hm]
    exact View.read_writes_cons_emb _ _ _ _ _ _
  · rw [if_neg hy]
    rw [View.read_writes_cons_miss]
    · rfl
    · intro hm
      rw [Rect.mem_set_unit] at hm
      have h0 := hm 0
      rw [ho] at h0
      have h1 : (i 0).val ≤ (y 0).val := h0.1
      have h2 : (y 0).val < (i 0).val + 1 := h0.2
      omega

/-- A load of a whole rank-two buffer is what the buffer reads. -/
theorem readAt_whole {sp : Space} {d : Fin 2 → ℕ} {e : EltTy} (v : View sig .tc sp ⟨2, d⟩ e) (inb : ∀ a, (![0, 0] : Fin 2 → ℕ) a + d a ≤ d a) (f : BufTy.Contents (Elt F) v.ty) :
    View.readAt (Elt F) v (Rect.unit (s := ⟨2, d⟩) ![0, 0] d inb).toLoadRect f = v.read (Elt F) f :=
  View.ld_unit_zero (S := ⟨2, d⟩) (off := ![0, 0]) (by funext a; fin_cases a <;> rfl) inb _

/-- After a store of the whole of a rank-two buffer it reads the payload. -/
theorem read_store_whole {sp : Space} {d : Fin 2 → ℕ} {e : EltTy} (v : View sig .tc sp ⟨2, d⟩ e) (inb : ∀ a, (![0, 0] : Fin 2 → ℕ) a + d a ≤ d a) (f : BufTy.Contents (Elt F) v.ty)
    (w : (⟨2, d⟩ : Shape).Idx → Elt F e) (L : List (View.Piece (Elt F) ⟨2, d⟩ e)) :
    v.read (Elt F) (v.writes (Elt F) f (⟨Rect.unit (s := ⟨2, d⟩) ![0, 0] d inb, w⟩ :: L)) = w := by
  exact View.read_writes_full (s := ⟨2, d⟩) v f inb w L

set_option maxHeartbeats 1000000 in
/-- The body at the first point: it quantises the activation, then computes the first hidden tile. -/
theorem sound_first (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : k0_cond1 i = 1#1) (h2 : k0_cond2 i = 1#1) (h3 : ¬ k0_cond3 i = 1#1) (h4 : ¬ k0_cond4 i = 1#1)
    (x1 : Vec F S1024x5120 .bf16) (x2 : Vec F S384x5120 .fp8e4m3) (x3 : Vec F S384x5120 .fp8e4m3) (x4 : Vec F S1x384 .f32) (x5 : Vec F S1x384 .f32) (x9 : Vec F S1024x5120 .fp8e4m3) (x10 : Vec F S1024x1 .f32) (x13 : Vec F S9x1024x384 .f32) (x14 : Vec F S1024x128 .f32) (Q : Unit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare x13 ∗ owns (c : Thread nD τ) arg14 fullShare x14)
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare (XC x1) ∗ owns (c : Thread nD τ) arg10 fullShare (XS x1) ∗ owns (c : Thread nD τ) arg13 fullShare (putH i x13 (tileH (XS x1) (XC x1) x2 x4 x3 x5)) ∗ owns (c : Thread nD τ) arg14 fullShare (stepM (XS x1) (XC x1) x2 x4 x3 x5 k0_pay2)) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_pos h1, dif_pos h2, dif_neg h3, dif_neg h4]
  simp only [k0_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, ⟨%f13, %hf13, H13⟩, ⟨%f14, %hf14, H14⟩⟩, Hk⟩
  subst hf1 hf2 hf3 hf4 hf5 hf9 hf10 hf13 hf14
  sl_exec
  have e12 : sound_first.sl.v12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10 = XS (arg1.view.read (Elt F) f1) := by
    unfold sound_first.sl.v12
    exact (readAt_whole _ _ _).trans (read_loop1_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10)
  have e14 : sound_first.sl.v14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9 = XC (arg1.view.read (Elt F) f1) := by
    unfold sound_first.sl.v14
    exact (readAt_whole _ _ _).trans (read_loop1_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9)
  have er : sound_first.sl.r (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f2 f3 f4 f5 f9 f10 = k0_pay18 (XS (arg1.view.read (Elt F) f1)) (XC (arg1.view.read (Elt F) f1)) (arg2.view.read (Elt F) f2) (arg4.view.read (Elt F) f4) (XC (arg1.view.read (Elt F) f1)) (arg3.view.read (Elt F) f3) (arg5.view.read (Elt F) f5) := by
    unfold sound_first.sl.r
    rw [e12, e14, readAt_whole, readAt_whole, readAt_whole, readAt_whole]
  have e48 : sound_first.sl.v48 (F := F) c arg14 = k0_pay2 := by
    unfold sound_first.sl.v48
    exact View.readCov_unit_zero _ (by funext a; fin_cases a <;> rfl) _ _
  sl_step
  iapply Hk
  isplitl [H1]
  · iexists _
    isplitr
    swap
    · iexact H1
    ipureintro
    rfl
  isplitl [H2]
  · iexists _
    isplitr
    swap
    · iexact H2
    ipureintro
    rfl
  isplitl [H3]
  · iexists _
    isplitr
    swap
    · iexact H3
    ipureintro
    rfl
  isplitl [H4]
  · iexists _
    isplitr
    swap
    · iexact H4
    ipureintro
    rfl
  isplitl [H5]
  · iexists _
    isplitr
    swap
    · iexact H5
    ipureintro
    rfl
  isplitl [H9]
  · iexists _
    isplitr
    swap
    · iexact H9
    ipureintro
    exact read_loop1_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9
  isplitl [H10]
  · iexists _
    isplitr
    swap
    · iexact H10
    ipureintro
    exact read_loop1_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10
  isplitl [H13]
  · iexists _
    isplitr
    swap
    · iexact H13
    ipureintro
    refine (read_putH arg13 i _ f13 _).trans ?_
    rw [e12, e14, readAt_whole, readAt_whole, readAt_whole, readAt_whole]
    rfl
  · iexists _
    isplitr
    swap
    · iexact H14
    ipureintro
    refine (read_store_whole _ _ _ _ _).trans ?_
    rw [er, e48]
    rfl

set_option maxHeartbeats 1000000 in
/-- The body at a later point of the first half: it computes one hidden tile from the codes and scales already there. -/
theorem sound_gate (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : k0_cond2 i = 1#1) (h3 : ¬ k0_cond3 i = 1#1) (h4 : ¬ k0_cond4 i = 1#1)
    (x2 : Vec F S384x5120 .fp8e4m3) (x3 : Vec F S384x5120 .fp8e4m3) (x4 : Vec F S1x384 .f32) (x5 : Vec F S1x384 .f32) (x9 : Vec F S1024x5120 .fp8e4m3) (x10 : Vec F S1024x1 .f32) (x13 : Vec F S9x1024x384 .f32) (x14 : Vec F S1024x128 .f32) (Q : Unit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare x13 ∗ owns (c : Thread nD τ) arg14 fullShare x14)
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare (putH i x13 (tileH x10 x9 x2 x4 x3 x5)) ∗ owns (c : Thread nD τ) arg14 fullShare (stepM x10 x9 x2 x4 x3 x5 x14)) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_pos h2, dif_neg h3, dif_neg h4]
  simp only [k0_part3_eq_skeleton]
  unfold owns
  iintro ⟨⟨⟨%f2, %hf2, H2⟩, ⟨%f3, %hf3, H3⟩, ⟨%f4, %hf4, H4⟩, ⟨%f5, %hf5, H5⟩, ⟨%f9, %hf9, H9⟩, ⟨%f10, %hf10, H10⟩, ⟨%f13, %hf13, H13⟩, ⟨%f14, %hf14, H14⟩⟩, Hk⟩
  subst hf2 hf3 hf4 hf5 hf9 hf10 hf13 hf14
  sl_exec
  sl_step
  iapply Hk
  isplitl [H2]
  · iexists _
    isplitr
    swap
    · iexact H2
    ipureintro
    rfl
  isplitl [H3]
  · iexists _
    isplitr
    swap
    · iexact H3
    ipureintro
    rfl
  isplitl [H4]
  · iexists _
    isplitr
    swap
    · iexact H4
    ipureintro
    rfl
  isplitl [H5]
  · iexists _
    isplitr
    swap
    · iexact H5
    ipureintro
    rfl
  isplitl [H9]
  · iexists _
    isplitr
    swap
    · iexact H9
    ipureintro
    rfl
  isplitl [H10]
  · iexists _
    isplitr
    swap
    · iexact H10
    ipureintro
    rfl
  isplitl [H13]
  · iexists _
    isplitr
    swap
    · iexact H13
    ipureintro
    refine (read_putH arg13 i _ f13 _).trans ?_
    simp only [readAt_whole]
    rfl
  · iexists _
    isplitr
    swap
    · iexact H14
    ipureintro
    refine (read_store_whole _ _ _ _ _).trans ?_
    unfold sound_gate.sl.r
    simp only [readAt_whole]
    rfl

set_option maxHeartbeats 1000000 in
/-- The body at the point between the halves: it quantises the hidden rows and computes the first output tile. -/
theorem sound_turn (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : ¬ k0_cond2 i = 1#1) (h3 : k0_cond3 i = 1#1) (h4 : k0_cond4 i = 1#1)
    (x6 : Vec F S512x3456 .fp8e4m3) (x7 : Vec F S1x512 .f32) (x8 : Vec F S1024x512 .bf16) (x11 : Vec F S1024x3456 .fp8e4m3) (x12 : Vec F S1024x1 .f32) (x13 : Vec F S9x1024x384 .f32) (x14 : Vec F S1024x128 .f32) (Q : Unit → sProp 𝕄) :
    iprop((owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14)
      ∗ ((owns (c : Thread nD τ) arg6 fullShare x6 ∗ owns (c : Thread nD τ) arg7 fullShare x7 ∗ owns (c : Thread nD τ) arg8 fullShare (k0_pay6 (HC x13 x14) x6 (HS x14) x7) ∗ owns (c : Thread nD τ) arg11 fullShare (HC x13 x14) ∗ owns (c : Thread nD τ) arg12 fullShare (HS x14) ∗ owns (c : Thread nD τ) arg13 fullShare x13 ∗ owns (c : Thread nD τ) arg14 fullShare x14) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_neg h2, dif_pos h3, dif_pos h4]
  unfold owns
  iintro ⟨⟨⟨%f6, %hf6, H6⟩, ⟨%f7, %hf7, H7⟩, ⟨%f8, %hf8, H8⟩, ⟨%f11, %hf11, H11⟩, ⟨%f12, %hf12, H12⟩, ⟨%f13, %hf13, H13⟩, ⟨%f14, %hf14, H14⟩⟩, Hk⟩
  subst hf6 hf7 hf8 hf11 hf12 hf13 hf14
  sl_exec
  have e12 : sound_turn.sl.v12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f11 f13 f14 = HC (arg13.view.read (Elt F) f13) (arg14.view.read (Elt F) f14) := by
    unfold sound_turn.sl.v12
    exact (readAt_whole _ _ _).trans (read_loop2_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f11)
  have e16 : sound_turn.sl.v16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f12 f13 f14 = HS (arg14.view.read (Elt F) f14) := by
    unfold sound_turn.sl.v16
    exact (readAt_whole _ _ _).trans (read_loop2_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f12)
  sl_step
  iapply Hk
  isplitl [H6]
  · iexists _
    isplitr
    swap
    · iexact H6
    ipureintro
    rfl
  isplitl [H7]
  · iexists _
    isplitr
    swap
    · iexact H7
    ipureintro
    rfl
  isplitl [H8]
  · iexists _
    isplitr
    swap
    · iexact H8
    ipureintro
    refine (read_store_whole _ _ _ _ _).trans ?_
    rw [e12, e16, readAt_whole, readAt_whole]
  isplitl [H11]
  · iexists _
    isplitr
    swap
    · iexact H11
    ipureintro
    exact read_loop2_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f11
  isplitl [H12]
  · iexists _
    isplitr
    swap
    · iexact H12
    ipureintro
    exact read_loop2_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f12
  isplitl [H13]
  · iexists _
    isplitr
    swap
    · iexact H13
    ipureintro
    rfl
  · iexists _
    isplitr
    swap
    · iexact H14
    ipureintro
    rfl

set_option maxHeartbeats 1000000 in
/-- The body at a later point of the second half: it computes one output tile. -/
theorem sound_out (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : ¬ k0_cond2 i = 1#1) (h3 : ¬ k0_cond3 i = 1#1) (h4 : k0_cond4 i = 1#1)
    (x6 : Vec F S512x3456 .fp8e4m3) (x7 : Vec F S1x512 .f32) (x8 : Vec F S1024x512 .bf16) (x11 : Vec F S1024x3456 .fp8e4m3) (x12 : Vec F S1024x1 .f32) (Q : Unit → sProp 𝕄) :
    iprop((owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12)
      ∗ ((owns (c : Thread nD τ) arg6 fullShare x6 ∗ owns (c : Thread nD τ) arg7 fullShare x7 ∗ owns (c : Thread nD τ) arg8 fullShare (k0_pay6 x11 x6 x12 x7) ∗ owns (c : Thread nD τ) arg11 fullShare x11 ∗ owns (c : Thread nD τ) arg12 fullShare x12) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_neg h2, dif_neg h3, dif_pos h4]
  unfold owns
  iintro ⟨⟨⟨%f6, %hf6, H6⟩, ⟨%f7, %hf7, H7⟩, ⟨%f8, %hf8, H8⟩, ⟨%f11, %hf11, H11⟩, ⟨%f12, %hf12, H12⟩⟩, Hk⟩
  subst hf6 hf7 hf8 hf11 hf12
  sl_exec
  sl_step
  iapply Hk
  isplitl [H6]
  · iexists _
    isplitr
    swap
    · iexact H6
    ipureintro
    rfl
  isplitl [H7]
  · iexists _
    isplitr
    swap
    · iexact H7
    ipureintro
    rfl
  isplitl [H8]
  · iexists _
    isplitr
    swap
    · iexact H8
    ipureintro
    refine (read_store_whole _ _ _ _ _).trans ?_
    simp only [readAt_whole]
  isplitl [H11]
  · iexists _
    isplitr
    swap
    · iexact H11
    ipureintro
    rfl
  · iexists _
    isplitr
    swap
    · iexact H12
    ipureintro
    rfl

end Cert.Kernel.Gen

end
-- ==== Proof.KernelData.lean ====
module

public import proofs.«01_k».proof.Proof.KernelBody
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.ShloMosaic.Pipeline (RDat Cfg Window)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, as functions of the windows' blocks -/

/-- The first grid point. -/
def t0 : Fin cfg0.N := ⟨0, by decide⟩
/-- Grid point `j` of the first half. -/
def tj (j : ℕ) (hj : j < 9) : Fin cfg0.N := ⟨j, by have : cfg0.N = 19 := N_0; omega⟩

/-- The activation's codes. -/
def XCt (c : Dev nD) : S1024x5120.Idx → Elt F .fp8e4m3 := XC (iblk m c 0 t0)
/-- The activation's scales. -/
def XSt (c : Dev nD) : S1024x1.Idx → Elt F .f32 := XS (iblk m c 0 t0)
/-- The hidden tile of point `t`. -/
def TH (c : Dev nD) (t : Fin cfg0.N) : S1x1024x384.Idx → Elt F .f32 :=
  tileH (XSt m c) (XCt m c) (iblk m c 1 t) (iblk m c 3 t) (iblk m c 2 t) (iblk m c 4 t)
/-- The hidden scratch once all nine tiles are in. -/
def HH (c : Dev nD) : S9x1024x384.Idx → Elt F .f32 := fun y =>
  TH m c (tj (y 0).val (y 0).isLt) (ix3 (0 : Fin 1) (y 1 : Fin 1024) (y 2 : Fin 384))
/-- The lane-wise running maximum before point `n`. -/
def MX (c : Dev nD) : ℕ → S1024x128.Idx → Elt F .f32
  | 0 => k0_pay2
  | n + 1 => if h : n < 9 then stepM (XSt m c) (XCt m c) (iblk m c 1 (tj n h)) (iblk m c 3 (tj n h)) (iblk m c 2 (tj n h)) (iblk m c 4 (tj n h)) (MX c n) else MX c n
/-- The hidden rows' codes. -/
def HCt (c : Dev nD) : S1024x3456.Idx → Elt F .fp8e4m3 := HC (HH m c) (MX m c 9)
/-- The hidden rows' scales. -/
def HSt (c : Dev nD) : S1024x1.Idx → Elt F .f32 := HS (MX m c 9)
/-- The output tile of point `t`. -/
def OUTt (c : Dev nD) (t : Fin cfg0.N) : S1024x512.Idx → Elt F .bf16 := k0_pay6 (HCt m c) (iblk m c 5 t) (HSt m c) (iblk m c 6 t)

/-- What the two scratch buffers hold before point `n`: the hidden tiles of the points before it, and their running maximum. -/
def Good (c : Dev nD) (n : ℕ) (h : S9x1024x384.Idx → Elt F .f32) (mx : S1024x128.Idx → Elt F .f32) : Prop :=
  (∀ y, (y 0).val < n → h y = HH m c y) ∧ (0 < n → n ≤ 9 → mx = MX m c n)

/-- The invariant before point `n`: the scratch buffers at `Good` contents, and the generator register. -/
def Inv (c : Dev nD) (n : ℕ) : sProp 𝕄 :=
  iprop(∃ h : S9x1024x384.Idx → Elt F .f32, ∃ mx : S1024x128.Idx → Elt F .f32, ⌜Good m c n h mx⌝
    ∗ owns (c : Thread nD τ) (Memref.whole cc0_scratch0) fullShare h ∗ owns (c : Thread nD τ) (Memref.whole cc0_scratch1) fullShare mx ∗ ∃ r, prngReg c r)

/-- The proof data: the inputs are left as found; the output tile is named from the turn on, the activation's codes and scales at every point,
    the hidden rows' codes and scales from the turn on. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => 9 ≤ t.val → X = OUTt m c t
    | ⟨8, _⟩ => fun _ X => X = XCt m c
    | ⟨9, _⟩ => fun _ X => X = XSt m c
    | ⟨10, _⟩ => fun _ X => 9 ≤ t.val → X = HCt m c
    | ⟨11, _⟩ => fun _ X => 9 ≤ t.val → X = HSt m c
  Φ t := Inv m c t.val
  q w := Pipeline.shareOf spec0 w
  owed _ := 0

/-- The run data's arrays are the arrays as the call finds them. -/
theorem rA_eq (c : Dev nD) (w : Fin cfg0.W) : (rdat m c).A w = V m c (Pipeline.arrRef spec0 w) := by
  dsimp only [rdat]

theorem rafter_0 (c : Dev nD) (t : Fin cfg0.N) (Y X : (cfg0.win 0).block.Idx → Elt F (cfg0.win 0).elt) : (rdat m c).after 0 t Y X = (X = Y) := by dsimp only [rdat]
theorem rafter_1 (c : Dev nD) (t : Fin cfg0.N) (Y X : (cfg0.win 1).block.Idx → Elt F (cfg0.win 1).elt) : (rdat m c).after 1 t Y X = (X = Y) := by dsimp only [rdat]
theorem rafter_2 (c : Dev nD) (t : Fin cfg0.N) (Y X : (cfg0.win 2).block.Idx → Elt F (cfg0.win 2).elt) : (rdat m c).after 2 t Y X = (X = Y) := by dsimp only [rdat]
theorem rafter_3 (c : Dev nD) (t : Fin cfg0.N) (Y X : (cfg0.win 3).block.Idx → Elt F (cfg0.win 3).elt) : (rdat m c).after 3 t Y X = (X = Y) := by dsimp only [rdat]
theorem rafter_4 (c : Dev nD) (t : Fin cfg0.N) (Y X : (cfg0.win 4).block.Idx → Elt F (cfg0.win 4).elt) : (rdat m c).after 4 t Y X = (X = Y) := by dsimp only [rdat]
theorem rafter_5 (c : Dev nD) (t : Fin cfg0.N) (Y X : (cfg0.win 5).block.Idx → Elt F (cfg0.win 5).elt) : (rdat m c).after 5 t Y X = (X = Y) := by dsimp only [rdat]
theorem rafter_6 (c : Dev nD) (t : Fin cfg0.N) (Y X : (cfg0.win 6).block.Idx → Elt F (cfg0.win 6).elt) : (rdat m c).after 6 t Y X = (X = Y) := by dsimp only [rdat]
theorem rafter_7 (c : Dev nD) (t : Fin cfg0.N) (Y X : (cfg0.win 7).block.Idx → Elt F (cfg0.win 7).elt) : (rdat m c).after 7 t Y X = ((9 ≤ t.val → X = OUTt m c t)) := by dsimp only [rdat]
theorem rafter_8 (c : Dev nD) (t : Fin cfg0.N) (Y X : (cfg0.win 8).block.Idx → Elt F (cfg0.win 8).elt) : (rdat m c).after 8 t Y X = (X = XCt m c) := by dsimp only [rdat]
theorem rafter_9 (c : Dev nD) (t : Fin cfg0.N) (Y X : (cfg0.win 9).block.Idx → Elt F (cfg0.win 9).elt) : (rdat m c).after 9 t Y X = (X = XSt m c) := by dsimp only [rdat]
theorem rafter_10 (c : Dev nD) (t : Fin cfg0.N) (Y X : (cfg0.win 10).block.Idx → Elt F (cfg0.win 10).elt) : (rdat m c).after 10 t Y X = ((9 ≤ t.val → X = HCt m c)) := by dsimp only [rdat]
theorem rafter_11 (c : Dev nD) (t : Fin cfg0.N) (Y X : (cfg0.win 11).block.Idx → Elt F (cfg0.win 11).elt) : (rdat m c).after 11 t Y X = ((9 ≤ t.val → X = HSt m c)) := by dsimp only [rdat]

/-! ## What the body finds in the staging buffers -/

/-- Input window 0's staging buffer holds its block. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [rafter_0] at h; exact h) t Y h
  refine hd.trans ?_
  unfold RDat.fetched RDat.blockOf iblk
  rw [rA_eq]
  try rfl

/-- Input window 1's staging buffer holds its block. -/
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [rafter_1] at h; exact h) t Y h
  refine hd.trans ?_
  unfold RDat.fetched RDat.blockOf iblk
  rw [rA_eq]
  try rfl

/-- Input window 2's staging buffer holds its block. -/
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [rafter_2] at h; exact h) t Y h
  refine hd.trans ?_
  unfold RDat.fetched RDat.blockOf iblk
  rw [rA_eq]
  try rfl

/-- Input window 3's staging buffer holds its block. -/
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [rafter_3] at h; exact h) t Y h
  refine hd.trans ?_
  unfold RDat.fetched RDat.blockOf iblk
  rw [rA_eq]
  try rfl

/-- Input window 4's staging buffer holds its block. -/
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rw [rafter_4] at h; exact h) t Y h
  refine hd.trans ?_
  unfold RDat.fetched RDat.blockOf iblk
  rw [rA_eq]
  try rfl

/-- Input window 5's staging buffer holds its block. -/
theorem finds_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => by rw [rafter_5] at h; exact h) t Y h
  refine hd.trans ?_
  unfold RDat.fetched RDat.blockOf iblk
  rw [rA_eq]
  try rfl

/-- Input window 6's staging buffer holds its block. -/
theorem finds_6 (c : Dev nD) (t : Fin cfg0.N) (Y) (h : (rdat m c).Finds 6 t Y) : Y = iblk m c 6 t := by
  obtain ⟨d, hd⟩ := (rdat m c).finds_in_eq_fetched 6 rfl (fun _ _ _ => rfl) (fun t Y X h => by rw [rafter_6] at h; exact h) t Y h
  refine hd.trans ?_
  unfold RDat.fetched RDat.blockOf iblk
  rw [rA_eq]
  try rfl

/-- Output window 8's staging buffer keeps what the earlier points left. -/
theorem finds_8 (c : Dev nD) (t : Fin cfg0.N) (ht : 0 < t.val) (Y) (h : (rdat m c).Finds 8 t Y) : Y = XCt m c := by
  have hN : t.val < 19 := lt_of_lt_of_eq t.isLt N_0
  rcases ((rdat m c).finds_of_pos ((cfg0.win 8).fetch_out rfl t) (by omega) Y).mp h with hf | ⟨Y', -, hY⟩
  · rw [flush0_8] at hf
    simp only at hf
    omega
  · rw [rafter_8] at hY
    exact hY

/-- Output window 9's staging buffer keeps what the earlier points left. -/
theorem finds_9 (c : Dev nD) (t : Fin cfg0.N) (ht : 0 < t.val) (Y) (h : (rdat m c).Finds 9 t Y) : Y = XSt m c := by
  have hN : t.val < 19 := lt_of_lt_of_eq t.isLt N_0
  rcases ((rdat m c).finds_of_pos ((cfg0.win 9).fetch_out rfl t) (by omega) Y).mp h with hf | ⟨Y', -, hY⟩
  · rw [flush0_9] at hf
    simp only at hf
    omega
  · rw [rafter_9] at hY
    exact hY

/-- Output window 10's staging buffer keeps what the earlier points left. -/
theorem finds_10 (c : Dev nD) (t : Fin cfg0.N) (ht : 9 < t.val) (Y) (h : (rdat m c).Finds 10 t Y) : Y = HCt m c := by
  have hN : t.val < 19 := lt_of_lt_of_eq t.isLt N_0
  rcases ((rdat m c).finds_of_pos ((cfg0.win 10).fetch_out rfl t) (by omega) Y).mp h with hf | ⟨Y', -, hY⟩
  · rw [flush0_10] at hf
    simp only at hf
    omega
  · rw [rafter_10] at hY
    exact hY (by show 9 ≤ t.val - 1; omega)

/-- Output window 11's staging buffer keeps what the earlier points left. -/
theorem finds_11 (c : Dev nD) (t : Fin cfg0.N) (ht : 9 < t.val) (Y) (h : (rdat m c).Finds 11 t Y) : Y = HSt m c := by
  have hN : t.val < 19 := lt_of_lt_of_eq t.isLt N_0
  rcases ((rdat m c).finds_of_pos ((cfg0.win 11).fetch_out rfl t) (by omega) Y).mp h with hf | ⟨Y', -, hY⟩
  · rw [flush0_11] at hf
    simp only at hf
    omega
  · rw [rafter_11] at hY
    exact hY (by show 9 ≤ t.val - 1; omega)

/-! ## The body at each point -/

/-- The first branch runs at the first point. -/
theorem c1_iff : ∀ t : Fin grid0.N, k0_cond1 (grid0.coords t) = 1#1 ↔ t.val = 0 := by decide +kernel
/-- The second branch runs at the first nine points. -/
theorem c2_iff : ∀ t : Fin grid0.N, k0_cond2 (grid0.coords t) = 1#1 ↔ t.val < 9 := by decide +kernel
/-- The third branch runs at point 9. -/
theorem c3_iff : ∀ t : Fin grid0.N, k0_cond3 (grid0.coords t) = 1#1 ↔ t.val = 9 := by decide +kernel
/-- The fourth branch runs from point 9 on. -/
theorem c4_iff : ∀ t : Fin grid0.N, k0_cond4 (grid0.coords t) = 1#1 ↔ 9 ≤ t.val := by decide +kernel
/-- The grid has one coordinate, the point's number. -/
theorem coords_val : ∀ t : Fin grid0.N, (grid0.coords t 0).val = t.val := by decide +kernel

/-- One more hidden tile: the scratch buffers are good before the next point. -/
theorem good_step (c : Dev nD) (t : Fin cfg0.N) (ht : t.val < 9) (h : S9x1024x384.Idx → Elt F .f32) (mx mx' : S1024x128.Idx → Elt F .f32)
    (hg : ∀ y, (y 0).val < t.val → h y = HH m c y) (hm : mx = MX m c t.val)
    (hm' : mx' = stepM (XSt m c) (XCt m c) (iblk m c 1 t) (iblk m c 3 t) (iblk m c 2 t) (iblk m c 4 t) mx) :
    Good m c (t.val + 1) (putH (grid0.coords t) h (TH m c t)) mx' := by
  refine ⟨fun y hy => ?_, fun _ _ => ?_⟩
  · unfold putH
    rw [coords_val]
    by_cases hyt : (y 0).val = t.val
    · rw [if_pos hyt]
      unfold HH
      have : tj (y 0).val (y 0).isLt = t := Fin.ext hyt
      rw [this]
    · rw [if_neg hyt]
      exact hg y (by omega)
  · rw [hm', hm]
    show _ = if h : t.val < 9 then _ else _
    rw [dif_pos ht]
    rfl

set_option maxHeartbeats 2000000 in
/-- The body at any point, from the buffers it is handed to the buffers it leaves. -/
theorem sound_body (c : Dev nD) (t : Fin cfg0.N) (y0 : S1024x5120.Idx → Elt F .bf16) (y1 : S384x5120.Idx → Elt F .fp8e4m3) (y2 : S384x5120.Idx → Elt F .fp8e4m3) (y3 : S1x384.Idx → Elt F .f32) (y4 : S1x384.Idx → Elt F .f32) (y5 : S512x3456.Idx → Elt F .fp8e4m3) (y6 : S1x512.Idx → Elt F .f32) (y7 : S1024x512.Idx → Elt F .bf16) (y8 : S1024x5120.Idx → Elt F .fp8e4m3) (y9 : S1024x1.Idx → Elt F .f32) (y10 : S1024x3456.Idx → Elt F .fp8e4m3) (y11 : S1024x1.Idx → Elt F .f32)
    (h0 : y0 = iblk m c 0 t) (h1 : y1 = iblk m c 1 t) (h2 : y2 = iblk m c 2 t) (h3 : y3 = iblk m c 3 t) (h4 : y4 = iblk m c 4 t) (h5 : y5 = iblk m c 5 t) (h6 : y6 = iblk m c 6 t) (h8 : 0 < t.val → y8 = XCt m c) (h9 : 0 < t.val → y9 = XSt m c) (h10 : 9 < t.val → y10 = HCt m c) (h11 : 9 < t.val → y11 = HSt m c) :
    iprop(Inv m c t.val ∗ (rdat m c).owesAt () t.castSucc ∗ owns (c : Thread nD τ) (st0_0 t) fullShare y0 ∗ owns (c : Thread nD τ) (st0_1 t) fullShare y1 ∗ owns (c : Thread nD τ) (st0_2 t) fullShare y2 ∗ owns (c : Thread nD τ) (st0_3 t) fullShare y3 ∗ owns (c : Thread nD τ) (st0_4 t) fullShare y4 ∗ owns (c : Thread nD τ) (st0_5 t) fullShare y5 ∗ owns (c : Thread nD τ) (st0_6 t) fullShare y6 ∗ owns (c : Thread nD τ) (st0_7 t) fullShare y7 ∗ owns (c : Thread nD τ) (st0_8 t) fullShare y8 ∗ owns (c : Thread nD τ) (st0_9 t) fullShare y9 ∗ owns (c : Thread nD τ) (st0_10 t) fullShare y10 ∗ owns (c : Thread nD τ) (st0_11 t) fullShare y11)
      ⊢ wp frame (wpE (defs₀ (F := F)) Variants.none (c : Thread nD τ) none) Set.univ (bodyAt0 t) (fun _ =>
        iprop(Inv m c (t.val + 1) ∗ (rdat m c).owesAt () t.succ ∗ (∃ X : S1024x5120.Idx → Elt F .bf16, ⌜X = y0⌝ ∗ owns (c : Thread nD τ) (st0_0 t) fullShare X) ∗ (∃ X : S384x5120.Idx → Elt F .fp8e4m3, ⌜X = y1⌝ ∗ owns (c : Thread nD τ) (st0_1 t) fullShare X) ∗ (∃ X : S384x5120.Idx → Elt F .fp8e4m3, ⌜X = y2⌝ ∗ owns (c : Thread nD τ) (st0_2 t) fullShare X) ∗ (∃ X : S1x384.Idx → Elt F .f32, ⌜X = y3⌝ ∗ owns (c : Thread nD τ) (st0_3 t) fullShare X) ∗ (∃ X : S1x384.Idx → Elt F .f32, ⌜X = y4⌝ ∗ owns (c : Thread nD τ) (st0_4 t) fullShare X) ∗ (∃ X : S512x3456.Idx → Elt F .fp8e4m3, ⌜X = y5⌝ ∗ owns (c : Thread nD τ) (st0_5 t) fullShare X) ∗ (∃ X : S1x512.Idx → Elt F .f32, ⌜X = y6⌝ ∗ owns (c : Thread nD τ) (st0_6 t) fullShare X) ∗ (∃ X : S1024x512.Idx → Elt F .bf16, ⌜9 ≤ t.val → X = OUTt m c t⌝ ∗ owns (c : Thread nD τ) (st0_7 t) fullShare X) ∗ (∃ X : S1024x5120.Idx → Elt F .fp8e4m3, ⌜X = XCt m c⌝ ∗ owns (c : Thread nD τ) (st0_8 t) fullShare X) ∗ (∃ X : S1024x1.Idx → Elt F .f32, ⌜X = XSt m c⌝ ∗ owns (c : Thread nD τ) (st0_9 t) fullShare X) ∗ (∃ X : S1024x3456.Idx → Elt F .fp8e4m3, ⌜9 ≤ t.val → X = HCt m c⌝ ∗ owns (c : Thread nD τ) (st0_10 t) fullShare X) ∗ (∃ X : S1024x1.Idx → Elt F .f32, ⌜9 ≤ t.val → X = HSt m c⌝ ∗ owns (c : Thread nD τ) (st0_11 t) fullShare X))) := by
  have hN : t.val < 19 := lt_of_lt_of_eq t.isLt N_0
  rw [show (rdat m c).owesAt () t.succ = (rdat m c).owesAt () t.castSucc from rfl]
  subst h0 h1 h2 h3 h4 h5 h6
  unfold Inv bodyAt0
  iintro ⟨⟨%hb, %mb, %hg, HS0, HS1, Hp⟩, Ho, H0, H1, H2, H3, H4, H5, H6, H7, H8, H9, H10, H11⟩
  obtain ⟨hgh, hgm⟩ := hg
  by_cases hc2 : t.val < 9
  · by_cases hc1 : t.val = 0
    · obtain rfl : t = t0 := Fin.ext hc1
      iapply (sound_first (F := F) Variants.none c none Set.univ (grid0.coords t0)  _ _ _ _ _ _ _ _ _ _ _ _ _ _ _ _ _ _ _ _ _ _ _ _ _ _ _ _ ((c1_iff _).mpr rfl) ((c2_iff _).mpr hc2) (mt (c3_iff _).mp (by omega)) (mt (c4_iff _).mp (by omega)) _ _ _ _ _ _ _ _ _ _)
      isplitl [H0 H1 H2 H3 H4 H8 H9 HS0 HS1]
      · isplitl [H0]; · iexact H0
        isplitl [H1]; · iexact H1
        isplitl [H2]; · iexact H2
        isplitl [H3]; · iexact H3
        isplitl [H4]; · iexact H4
        isplitl [H8]; · iexact H8
        isplitl [H9]; · iexact H9
        isplitl [HS0]; · iexact HS0
        iexact HS1
      iintro ⟨H0, H1, H2, H3, H4, H8, H9, HS0, HS1⟩
      isplitl [HS0 HS1 Hp]
      · iexists _
        iexists _
        isplitr
        swap
        · isplitl [HS0]; · iexact HS0
          isplitl [HS1]; · iexact HS1
          iexact Hp
        ipureintro
        exact good_step m c t0 hc2 _ (k0_pay2) _ hgh rfl rfl
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun h => absurd h (by omega)
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun h => absurd h (by omega)
      iexists _; isplitr
      swap
      · iexact H11
      ipureintro; exact fun h => absurd h (by omega)

    · obtain rfl := h8 (by omega)
      obtain rfl := h9 (by omega)
      iapply (sound_gate (F := F) Variants.none c none Set.univ (grid0.coords t)  _ _ _ _ _ _ _ _ _ _ _ _ _ _ _ _ _ _ _ _ _ _ _ _ _ _ _ _ (mt (c1_iff _).mp hc1) ((c2_iff _).mpr hc2) (mt (c3_iff _).mp (by omega)) (mt (c4_iff _).mp (by omega)) _ _ _ _ _ _ _ _ _)
      isplitl [H1 H2 H3 H4 H8 H9 HS0 HS1]
      · isplitl [H1]; · iexact H1
        isplitl [H2]; · iexact H2
        isplitl [H3]; · iexact H3
        isplitl [H4]; · iexact H4
        isplitl [H8]; · iexact H8
        isplitl [H9]; · iexact H9
        isplitl [HS0]; · iexact HS0
        iexact HS1
      iintro ⟨H1, H2, H3, H4, H8, H9, HS0, HS1⟩
      isplitl [HS0 HS1 Hp]
      · iexists _
        iexists _
        isplitr
        swap
        · isplitl [HS0]; · iexact HS0
          isplitl [HS1]; · iexact HS1
          iexact Hp
        ipureintro
        exact good_step m c t hc2 _ mb _ hgh (hgm (by omega) (by omega)) rfl
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun h => absurd h (by omega)
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun h => absurd h (by omega)
      iexists _; isplitr
      swap
      · iexact H11
      ipureintro; exact fun h => absurd h (by omega)

  · obtain rfl := h8 (by omega)
    obtain rfl := h9 (by omega)
    by_cases hc3 : t.val = 9
    · obtain rfl : hb = HH m c := funext fun y => hgh y (by have : (y 0).val < 9 := (y 0).isLt; omega)
      obtain rfl : mb = MX m c 9 := by rw [hgm (by omega) (by omega), hc3]
      iapply (sound_turn (F := F) Variants.none c none Set.univ (grid0.coords t)  _ _ _ _ _ _ _ _ _ _ _ _ _ _ _ _ _ _ _ _ _ _ _ _ _ _ _ _ (mt (c1_iff _).mp (by omega)) (mt (c2_iff _).mp hc2) ((c3_iff _).mpr hc3) ((c4_iff _).mpr (by omega)) _ _ _ _ _ _ _ _)
      isplitl [H5 H6 H7 H10 H11 HS0 HS1]
      · isplitl [H5]; · iexact H5
        isplitl [H6]; · iexact H6
        isplitl [H7]; · iexact H7
        isplitl [H10]; · iexact H10
        isplitl [H11]; · iexact H11
        isplitl [HS0]; · iexact HS0
        iexact HS1
      iintro ⟨H5, H6, H7, H10, H11, HS0, HS1⟩
      isplitl [HS0 HS1 Hp]
      · iexists _
        iexists _
        isplitr
        swap
        · isplitl [HS0]; · iexact HS0
          isplitl [HS1]; · iexact HS1
          iexact Hp
        ipureintro
        exact ⟨fun y _ => rfl, fun _ h => absurd h (by omega)⟩
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun _ => rfl
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun _ => rfl
      iexists _; isplitr
      swap
      · iexact H11
      ipureintro; exact fun _ => rfl

    · obtain rfl := h10 (by omega)
      obtain rfl := h11 (by omega)
      iapply (sound_out (F := F) Variants.none c none Set.univ (grid0.coords t)  _ _ _ _ _ _ _ _ _ _ _ _ _ _ _ _ _ _ _ _ _ _ _ _ _ _ _ _ (mt (c1_iff _).mp (by omega)) (mt (c2_iff _).mp hc2) (mt (c3_iff _).mp hc3) ((c4_iff _).mpr (by omega)) _ _ _ _ _ _)
      isplitl [H5 H6 H7 H10 H11]
      · isplitl [H5]; · iexact H5
        isplitl [H6]; · iexact H6
        isplitl [H7]; · iexact H7
        isplitl [H10]; · iexact H10
        iexact H11
      iintro ⟨H5, H6, H7, H10, H11⟩
      isplitl [HS0 HS1 Hp]
      · iexists _
        iexists _
        isplitr
        swap
        · isplitl [HS0]; · iexact HS0
          isplitl [HS1]; · iexact HS1
          iexact Hp
        ipureintro
        exact ⟨fun y hy => hgh y (by have : (y 0).val < 9 := (y 0).isLt; omega), fun _ h => absurd h (by omega)⟩
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun _ => rfl
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun _ => rfl
      iexists _; isplitr
      swap
      · iexact H11
      ipureintro; exact fun _ => rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y hY => by
  rw [bigSep_W0, bigSep_W0, defs₀_row]
  have hb := sound_body m c t (Y 0) (Y 1) (Y 2) (Y 3) (Y 4) (Y 5) (Y 6) (Y 7) (Y 8) (Y 9) (Y 10) (Y 11) (finds_0 m c t _ (hY 0)) (finds_1 m c t _ (hY 1)) (finds_2 m c t _ (hY 2)) (finds_3 m c t _ (hY 3)) (finds_4 m c t _ (hY 4)) (finds_5 m c t _ (hY 5)) (finds_6 m c t _ (hY 6)) (fun h => finds_8 m c t h _ (hY 8)) (fun h => finds_9 m c t h _ (hY 9)) (fun h => finds_10 m c t h _ (hY 10)) (fun h => finds_11 m c t h _ (hY 11))
  refine triple_restated hb ?_ ?_ fun _ => ?_
  · rfl
  · exact .rfl
  · simp only [rafter_0, rafter_1, rafter_2, rafter_3, rafter_4, rafter_5, rafter_6, rafter_7, rafter_8, rafter_9, rafter_10, rafter_11]
    exact .rfl

end Cert.Kernel.Gen

end
-- ==== Proof.KernelRun.lean ====
module

public import proofs.«01_k».proof.Proof.KernelData
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.ShloMosaic.Pipeline (RDat Cfg Window)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers and the generator register, at whatever the launch finds there, make the invariant before point 0. -/
theorem inv_in (c : Dev nD) : Pipeline.ΦA spec0 c ⊢ Inv m c 0 := by
  unfold Pipeline.ΦA Inv
  rw [scopedRest0_eq]
  iintro ⟨⟨⟨%h, H0⟩, ⟨%mx, H1⟩⟩, Hp⟩
  iexists h
  iexists mx
  isplitr
  swap
  · isplitl [H0]; · rw [owns_whole]; iexact H0
    isplitl [H1]; · rw [owns_whole]; iexact H1
    iexact Hp
  ipureintro
  exact ⟨fun y h => absurd h (by omega), fun h => absurd h (by omega)⟩

/-- The invariant gives the scratch buffers and the register back. -/
theorem inv_out (c : Dev nD) (n : ℕ) : Inv m c n ⊢ Pipeline.ΦA spec0 c := by
  unfold Pipeline.ΦA Inv
  rw [scopedRest0_eq]
  simp only [owns_whole]
  iintro ⟨%h, %mx, -, H0, H1, Hp⟩
  isplitl [H0 H1]
  · isplitl [H0]
    · iexists h; iexact H0
    · iexists mx; iexact H1
  · iexact Hp

set_option backward.isDefEq.respectTransparency.types false in
set_option maxHeartbeats 800000 in
/-- The whole module: it ends, with every array at what the proof data says of it and every semaphore at zero. -/
theorem run_main_quiescent : θ_run defs (onTc (τ := τ) (main (F := F))) (s₀ m ρ)
    (fun r => (RDat.FramePost cfg0 (rdat m) (V m)) r ∧ r.2.sem = fun _ => 0) := by
  exact Pipeline.RDat.θ_run_frame_track_shared (Q' := _) cfgs (0 : Fin 1) launch₀0 defs₀ Variants.none (rdat m) m ρ main
    (hbody := fun c => body_obligation m c)
    (hq := fun c w _ => rfl)
    (howed := fun c t => rfl)
    (V := V m)
    (hmain := hmain m Variants.none)
    (hA := fun c w => rA_eq m c w)
    (hin := fun c => inv_in m c)
    (hout := fun c => inv_out m c _)

/-- The frame claim: the kernel ends, its arguments are left as they were and its semaphores stand at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) := by
  refine (θ_run defs _ _).mono (fun r h => ⟨fun c => ?_, h.2⟩) (run_main_quiescent m ρ)
  have h1 := h.1
  refine ⟨?_, ?_, ?_, ?_, ?_⟩
  · exact ((h1 c).2 main_arg0 (Pipeline.mem_restRefs_of main_arg0 (by decide) (by decide))).trans (V_main_arg0 m c)
  · exact ((RDat.FramePost.arr_in h1 c 2 rfl).trans (rA_eq m c 2)).trans (V_main_arg1 m c)
  · exact ((h1 c).2 main_arg2 (Pipeline.mem_restRefs_of main_arg2 (by decide) (by decide))).trans (V_main_arg2 m c)
  · exact ((RDat.FramePost.arr_in h1 c 5 rfl).trans (rA_eq m c 5)).trans (V_main_arg3 m c)
  · exact ((h1 c).2 main_arg4 (Pipeline.mem_restRefs_of main_arg4 (by decide) (by decide))).trans (V_main_arg4 m c)

end Cert.Kernel.Gen

end
-- ==== Proof.KernelIdealTrips.lean ====
module

public import proofs.«01_k».proof.Proof.Gen.KernelIdeal.Frame
public import proofs.«01_k».proof.Proof.Gen.KernelIdeal.Loops
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The codes one trip of the first loop stores for its 64 rows. -/
def rowXC (v : Vec F S64x5120 .bf16) : FVec F S64x5120 .fp8e4m3 :=
  k0_pay1 (k0_pay15 (k0_pay7 v) (k0_pay8 v) (k0_pay9 v) (k0_pay10 v) (k0_pay11 v) (k0_pay12 v)) (Scalar.ofBits .f32 0xC3E00000#32)

/-- The scales one trip of the first loop stores for its 64 rows. -/
def rowXS (v : Vec F S64x5120 .bf16) : FVec F S64x1 .f32 :=
  k0_pay14 (k0_pay8 v) (k0_pay9 v) (k0_pay10 v) (k0_pay11 v) (k0_pay12 v)

/-- The pieces one trip of the first loop writes: the 64 rows' codes and scales. -/
theorem tripL1_eq (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k
      = ([⟨Rect.unit (s := S1024x5120) (k0_off1 k) S64x5120.size (k0_off1_inb i k k0_h1), rowXC (View.ld (arg1.view.read (Elt F) X_arg1) (Rect.unit (s := S1024x5120) (k0_off1 k) S64x5120.size (k0_off1_inb i k k0_h1)))⟩],
         [⟨Rect.unit (s := S1024x1) (k0_off2 k) S64x1.size (k0_off2_inb i k k0_h1), rowXS (View.ld (arg1.view.read (Elt F) X_arg1) (Rect.unit (s := S1024x5120) (k0_off1 k) S64x5120.size (k0_off1_inb i k k0_h1)))⟩]) := by
  unfold tripL_k0_t1 trip_k0_t1
  rfl

/-- The scale the second loop stores for its 64 rows. -/
def rowHS (m : Vec F S64x128 .f32) : FVec F S64x1 .f32 := k0_pay23 (k0_pay19 m) (k0_pay20 m) (k0_pay21 m) 4#32
/-- The inverse scale the second loop multiplies its 64 rows by. -/
def rowHI (m : Vec F S64x128 .f32) : FVec F S64x1 .f32 := k0_pay24 (k0_pay19 m) (k0_pay20 m) (k0_pay21 m) 4#32

/-- The codes the second loop stores for one 64-row, 384-lane tile of the hidden rows. -/
def rowHC (inv : FVec F S64x1 .f32) (h : Vec F S1x64x384 .f32) : FVec F S64x384 .fp8e4m3 := k0_pay25 inv h

/-- The pieces one trip of the second loop writes: nine tiles of codes and the 64 rows' scales. -/
theorem tripL2_eq (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k
      = ([⟨Rect.unit (s := S1024x3456) (k0_off23 k) S64x384.size (k0_off23_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off22 k) S1x64x384.size (k0_off22_inb i k k0_h3)))⟩,
          ⟨Rect.unit (s := S1024x3456) (k0_off21 k) S64x384.size (k0_off21_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off20 k) S1x64x384.size (k0_off20_inb i k k0_h3)))⟩,
          ⟨Rect.unit (s := S1024x3456) (k0_off19 k) S64x384.size (k0_off19_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off18 k) S1x64x384.size (k0_off18_inb i k k0_h3)))⟩,
          ⟨Rect.unit (s := S1024x3456) (k0_off17 k) S64x384.size (k0_off17_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off16 k) S1x64x384.size (k0_off16_inb i k k0_h3)))⟩,
          ⟨Rect.unit (s := S1024x3456) (k0_off15 k) S64x384.size (k0_off15_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off14 k) S1x64x384.size (k0_off14_inb i k k0_h3)))⟩,
          ⟨Rect.unit (s := S1024x3456) (k0_off13 k) S64x384.size (k0_off13_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off12 k) S1x64x384.size (k0_off12_inb i k k0_h3)))⟩,
          ⟨Rect.unit (s := S1024x3456) (k0_off11 k) S64x384.size (k0_off11_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off10 k) S1x64x384.size (k0_off10_inb i k k0_h3)))⟩,
          ⟨Rect.unit (s := S1024x3456) (k0_off9 k) S64x384.size (k0_off9_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off8 k) S1x64x384.size (k0_off8_inb i k k0_h3)))⟩,
          ⟨Rect.unit (s := S1024x3456) (k0_off7 k) S64x384.size (k0_off7_inb i k k0_h3), rowHC (rowHI (View.ld (arg14.view.read (Elt F) X_arg14) (Rect.unit (s := S1024x128) (k0_off4 k) S64x128.size (k0_off4_inb i k k0_h3)))) (View.ld (arg13.view.read (Elt F) X_arg13) (Rect.unit (s := S9x1024x384) (k0_off6 k) S1x64x384.size (k0_off6_inb i k k0_h3)))⟩],
         [⟨Rect.unit (s := S1024x1) (k0_off5 k) S64x1.size (k0_off5_inb i k k0_h3), rowHS (View.ld (arg14.view.read (Elt F) X_arg14) (Rect.unit (s := S1024x128) (k0_off4 k) S64x128.size (k0_off4_inb i k k0_h3)))⟩]) := by
  unfold tripL_k0_t2 trip_k0_t2
  rfl

/-! ## What the two loops leave -/

/-- Rows `64 k` to `64 k + 63` of a 1024-row array. -/
def rows64 {n : ℕ} {e : EltTy} (x : (⟨2, ![1024, n]⟩ : Shape).Idx → Elt F e) (k : ℕ) (hk : k < 16) : (⟨2, ![64, n]⟩ : Shape).Idx → Elt F e :=
  fun z => x (ix2 (⟨64 * k + (z 0).val, by have := (z 0).isLt; simp only [Shape.size, Matrix.cons_val_zero] at this; omega⟩ : Fin 1024) (z 1 : Fin n))

/-- Rows `64 k` to `64 k + 63` of plane `j` of the hidden scratch. -/
def tile64 {e : EltTy} (h : S9x1024x384.Idx → Elt F e) (j : Fin 9) (k : ℕ) (hk : k < 16) : S1x64x384.Idx → Elt F e :=
  fun z => h (ix3 j (⟨64 * k + (z 1).val, by have := (z 1).isLt; simp only [Shape.size, Matrix.cons_val_one, Matrix.cons_val_zero] at this; omega⟩ : Fin 1024) (z 2 : Fin 384))

/-- The codes of all 1024 rows of `x`, as the first loop leaves them. -/
def XC (x : Vec F S1024x5120 .bf16) : FVec F S1024x5120 .fp8e4m3 := fun y =>
  rowXC (rows64 x ((y 0).val / 64) (by have := (y 0).isLt; simp only [Shape.size, Matrix.cons_val_zero] at this; omega)) (ix2 (⟨(y 0).val % 64, Nat.mod_lt _ (by decide)⟩ : Fin 64) (y 1 : Fin 5120))

/-- The scales of all 1024 rows of `x`, as the first loop leaves them. -/
def XS (x : Vec F S1024x5120 .bf16) : FVec F S1024x1 .f32 := fun y =>
  rowXS (rows64 x ((y 0).val / 64) (by have := (y 0).isLt; simp only [Shape.size, Matrix.cons_val_zero] at this; omega)) (ix2 (⟨(y 0).val % 64, Nat.mod_lt _ (by decide)⟩ : Fin 64) (y 1 : Fin 1))

/-- The codes of all 1024 hidden rows, as the second loop leaves them. -/
def HC (h : Vec F S9x1024x384 .f32) (mx : Vec F S1024x128 .f32) : FVec F S1024x3456 .fp8e4m3 := fun y =>
  rowHC (rowHI (rows64 mx ((y 0).val / 64) (by have := (y 0).isLt; simp only [Shape.size, Matrix.cons_val_zero] at this; omega)))
    (tile64 h ⟨(y 1).val / 384, by have := (y 1).isLt; simp only [Shape.size, Matrix.cons_val_one, Matrix.cons_val_zero] at this; omega⟩ ((y 0).val / 64) (by have := (y 0).isLt; simp only [Shape.size, Matrix.cons_val_zero] at this; omega))
    (ix2 (⟨(y 0).val % 64, Nat.mod_lt _ (by decide)⟩ : Fin 64) (⟨(y 1).val % 384, Nat.mod_lt _ (by decide)⟩ : Fin 384))

/-- The scales of all 1024 hidden rows, as the second loop leaves them. -/
def HS (mx : Vec F S1024x128 .f32) : FVec F S1024x1 .f32 := fun y =>
  rowHS (rows64 mx ((y 0).val / 64) (by have := (y 0).isLt; simp only [Shape.size, Matrix.cons_val_zero] at this; omega)) (ix2 (⟨(y 0).val % 64, Nat.mod_lt _ (by decide)⟩ : Fin 64) (y 1 : Fin 1))

/-- A load of rows `64 k …` of a 1024-row array is `rows64`. -/
theorem ld_rows {n : ℕ} {e : EltTy} (x : (⟨2, ![1024, n]⟩ : Shape).Idx → Elt F e) (k : ℕ) (hk : k < 16) (off : Fin 2 → ℕ) (hoff : off = ![64 * k, 0])
    (inb : ∀ a, off a + (![64, n] : Fin 2 → ℕ) a ≤ (![1024, n] : Fin 2 → ℕ) a) :
    View.ld x (Rect.unit (s := ⟨2, ![1024, n]⟩) off ![64, n] inb) = rows64 x k hk := by
  subst hoff
  funext z
  unfold rows64 View.ld
  congr 1
  funext a
  apply Fin.ext
  fin_cases a
  · show (![64 * k, 0] : Fin 2 → ℕ) 0 + 1 * _ = 64 * k + _
    simp
  · show (![64 * k, 0] : Fin 2 → ℕ) 1 + 1 * _ = _
    simp

/-- A load of rows `64 k …` of plane `j` is `tile64`. -/
theorem ld_tile {e : EltTy} (h : S9x1024x384.Idx → Elt F e) (j : Fin 9) (k : ℕ) (hk : k < 16) (off : Fin 3 → ℕ) (hoff : off = ![j.val, 64 * k, 0])
    (inb : ∀ a, off a + S1x64x384.size a ≤ S9x1024x384.size a) :
    View.ld h (Rect.unit (s := S9x1024x384) off S1x64x384.size inb) = tile64 h j k hk := by
  subst hoff
  funext z
  unfold tile64 View.ld
  congr 1
  funext a
  apply Fin.ext
  fin_cases a
  · have h0 : (z 0).val < 1 := (z 0).isLt
    show (![j.val, 64 * k, 0] : Fin 3 → ℕ) 0 + 1 * (z 0).val = j.val
    simp; omega
  · show (![j.val, 64 * k, 0] : Fin 3 → ℕ) 1 + 1 * (z 1).val = 64 * k + (z 1).val
    simp
  · show (![j.val, 64 * k, 0] : Fin 3 → ℕ) 2 + 1 * (z 2).val = (z 2).val
    simp

/-- A block of rows `64 k …`, columns `c …`, of a function given by its 64-row, `w`-column tiles: the tile. -/
theorem emb_rows {N w n : ℕ} (k c : ℕ) (off : Fin 2 → ℕ) (hoff : off = ![64 * k, w * c])
    (inb : ∀ a, off a + (![64, w] : Fin 2 → ℕ) a ≤ (![N, n] : Fin 2 → ℕ) a) (z : (⟨2, ![64, w]⟩ : Shape).Idx) :
    (((Rect.unit (s := ⟨2, ![N, n]⟩) off ![64, w] inb).emb z) 0).val = 64 * k + (z 0).val
    ∧ (((Rect.unit (s := ⟨2, ![N, n]⟩) off ![64, w] inb).emb z) 1).val = w * c + (z 1).val := by
  subst hoff
  constructor
  · show (![64 * k, w * c] : Fin 2 → ℕ) 0 + 1 * _ = 64 * k + _
    simp
  · show (![64 * k, w * c] : Fin 2 → ℕ) 1 + 1 * _ = w * c + _
    simp

/-- Membership of an index in a row-and-column block. -/
theorem mem_rows {N w n : ℕ} (k c : ℕ) (off : Fin 2 → ℕ) (hoff : off = ![64 * k, w * c])
    (inb : ∀ a, off a + (![64, w] : Fin 2 → ℕ) a ≤ (![N, n] : Fin 2 → ℕ) a) (y : (⟨2, ![N, n]⟩ : Shape).Idx)
    (h0 : 64 * k ≤ (y 0).val) (h0' : (y 0).val < 64 * k + 64) (h1 : w * c ≤ (y 1).val) (h1' : (y 1).val < w * c + w) :
    y ∈ (Rect.unit (s := ⟨2, ![N, n]⟩) off ![64, w] inb).set := by
  subst hoff
  rw [Rect.mem_set_unit]
  intro a
  fin_cases a
  · exact ⟨h0, h0'⟩
  · exact ⟨h1, h1'⟩

/-- The first loop makes sixteen trips. -/
theorem trips1 : k0_t1_loop.trips = 16 := by decide +kernel
/-- The second loop makes sixteen trips. -/
theorem trips2 : k0_t2_loop.trips = 16 := by decide +kernel

/-- An index pair is the index with those coordinates. -/
theorem ix2_of {n0 n1 : ℕ} (z : (⟨2, ![n0, n1]⟩ : Shape).Idx) (a : Fin n0) (b : Fin n1) (h0 : a.val = (z 0).val) (h1 : b.val = (z 1).val) : ix2 a b = z := by
  rw [eq_ix2 z]
  exact congrArg₂ ix2 (Fin.ext h0) (Fin.ext h1)

/-- A 64-row block of `XC x` is the row function of the block's rows. -/
theorem XC_block (x : Vec F S1024x5120 .bf16) (k : ℕ) (hk : k < 16) (y : S1024x5120.Idx) (z : S64x5120.Idx)
    (h0 : (y 0).val = 64 * k + (z 0).val) (h1 : (y 1).val = (z 1).val) : XC x y = rowXC (rows64 x k hk) z := by
  have hz : (z 0).val < 64 := (z 0).isLt
  have hd : k = (y 0).val / 64 := by omega
  subst hd
  exact congrArg (rowXC _) (ix2_of z _ _ (by show (y 0).val % 64 = _; omega) h1)

/-- A 64-row block of `XS x` is the row function of the block's rows. -/
theorem XS_block (x : Vec F S1024x5120 .bf16) (k : ℕ) (hk : k < 16) (y : S1024x1.Idx) (z : S64x1.Idx)
    (h0 : (y 0).val = 64 * k + (z 0).val) (h1 : (y 1).val = (z 1).val) : XS x y = rowXS (rows64 x k hk) z := by
  have hz : (z 0).val < 64 := (z 0).isLt
  have hd : k = (y 0).val / 64 := by omega
  subst hd
  exact congrArg (rowXS _) (ix2_of z _ _ (by show (y 0).val % 64 = _; omega) h1)

/-- A 64-row block of `HS mx` is the row function of the block's rows. -/
theorem HS_block (mx : Vec F S1024x128 .f32) (k : ℕ) (hk : k < 16) (y : S1024x1.Idx) (z : S64x1.Idx)
    (h0 : (y 0).val = 64 * k + (z 0).val) (h1 : (y 1).val = (z 1).val) : HS mx y = rowHS (rows64 mx k hk) z := by
  have hz : (z 0).val < 64 := (z 0).isLt
  have hd : k = (y 0).val / 64 := by omega
  subst hd
  exact congrArg (rowHS _) (ix2_of z _ _ (by show (y 0).val % 64 = _; omega) h1)

/-- A tile of `HC h mx` is the tile function of the tile's rows. -/
theorem HC_block (h : Vec F S9x1024x384 .f32) (mx : Vec F S1024x128 .f32) (j : Fin 9) (k : ℕ) (hk : k < 16) (y : S1024x3456.Idx) (z : S64x384.Idx)
    (h0 : (y 0).val = 64 * k + (z 0).val) (h1 : (y 1).val = 384 * j.val + (z 1).val) :
    HC h mx y = rowHC (rowHI (rows64 mx k hk)) (tile64 h j k hk) z := by
  have hz : (z 0).val < 64 := (z 0).isLt
  have hz1 : (z 1).val < 384 := (z 1).isLt
  have hd : k = (y 0).val / 64 := by omega
  subst hd
  have hd1 : (⟨(y 1).val / 384, by have : (y 1).val < 3456 := (y 1).isLt; omega⟩ : Fin 9) = j := Fin.ext (by show (y 1).val / 384 = j.val; omega)
  unfold HC
  rw [hd1]
  exact congrArg (rowHC _ _) (ix2_of z _ _ (by show (y 0).val % 64 = _; omega) (by show (y 1).val % 384 = _; omega))

/-- The first loop's pieces after `n` trips: each a block of `XC`, `XS`, together covering the first `64 n` rows. -/
theorem pb1_spec (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (n : ℕ) (hn : n ≤ 16) :
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).1, ∀ x : p.1.shape.Idx, p.2 x = XC (arg1.view.read (Elt F) X_arg1) (p.1.emb x))
      ∧ (∀ y : S1024x5120.Idx, (y 0).val < 64 * n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).1, y ∈ p.1.set))
    ∧ ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).2, ∀ x : p.1.shape.Idx, p.2 x = XS (arg1.view.read (Elt F) X_arg1) (p.1.emb x))
      ∧ (∀ y : S1024x1.Idx, (y 0).val < 64 * n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 n).2, y ∈ p.1.set)) := by
  induction n with
  | zero => exact ⟨⟨fun p hp => absurd hp List.not_mem_nil, fun y hy => absurd hy (by omega)⟩, ⟨fun p hp => absurd hp List.not_mem_nil, fun y hy => absurd hy (by omega)⟩⟩
  | succ n ih =>
    obtain ⟨⟨a1, a2⟩, b1, b2⟩ := ih (by omega)
    have hn' : n < k0_t1_loop.trips := by rw [trips1]; omega
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 ⟨n, hn'⟩
    rw [tripL1_eq] at e
    simp only at e
    rw [e]
    refine ⟨⟨fun p hp x => ?_, fun y hy => ?_⟩, fun p hp x => ?_, fun y hy => ?_⟩
    · rcases List.mem_cons.mp hp with rfl | hp
      · obtain ⟨e0, e1⟩ := emb_rows (N := 1024) (w := 5120) (n := 5120) n 0 _ (k0_off1_eq ⟨n, hn'⟩) (k0_off1_inb i ⟨n, hn'⟩ k0_h1) x
        rw [XC_block _ n (by omega) _ x e0 (by rw [e1]; omega)]
        exact congrFun (congrArg rowXC (ld_rows _ n (by omega) _ (k0_off1_eq ⟨n, hn'⟩) _)) x
      · exact a1 p hp x
    · by_cases hy' : (y 0).val < 64 * n
      · obtain ⟨p, hp, hm⟩ := a2 y hy'
        exact ⟨p, List.mem_cons_of_mem _ hp, hm⟩
      · have hy1 : (y 1).val < 5120 := (y 1).isLt
        exact ⟨_, List.mem_cons_self, mem_rows (N := 1024) (w := 5120) (n := 5120) n 0 _ (k0_off1_eq ⟨n, hn'⟩) (k0_off1_inb i ⟨n, hn'⟩ k0_h1) y (by omega) (by omega) (by omega) (by omega)⟩
    · rcases List.mem_cons.mp hp with rfl | hp
      · obtain ⟨e0, e1⟩ := emb_rows (N := 1024) (w := 1) (n := 1) n 0 _ (k0_off2_eq ⟨n, hn'⟩) (k0_off2_inb i ⟨n, hn'⟩ k0_h1) x
        rw [XS_block _ n (by omega) _ x e0 (by rw [e1]; omega)]
        exact congrFun (congrArg rowXS (ld_rows _ n (by omega) _ (k0_off1_eq ⟨n, hn'⟩) _)) x
      · exact b1 p hp x
    · by_cases hy' : (y 0).val < 64 * n
      · obtain ⟨p, hp, hm⟩ := b2 y hy'
        exact ⟨p, List.mem_cons_of_mem _ hp, hm⟩
      · have hy1 : (y 1).val < 1 := (y 1).isLt
        exact ⟨_, List.mem_cons_self, mem_rows (N := 1024) (w := 1) (n := 1) n 0 _ (k0_off2_eq ⟨n, hn'⟩) (k0_off2_inb i ⟨n, hn'⟩ k0_h1) y (by omega) (by omega) (by omega) (by omega)⟩

set_option maxHeartbeats 1000000 in
/-- The second loop's pieces after `n` trips: each a block of `HC`, `HS`, together covering the first `64 n` rows. -/
theorem pb2_spec (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (n : ℕ) (hn : n ≤ 16) :
    ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).1, ∀ x : p.1.shape.Idx, p.2 x = HC (arg13.view.read (Elt F) X_arg13) (arg14.view.read (Elt F) X_arg14) (p.1.emb x))
      ∧ (∀ y : S1024x3456.Idx, (y 0).val < 64 * n → ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).1, y ∈ p.1.set))
    ∧ ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).2, ∀ x : p.1.shape.Idx, p.2 x = HS (arg14.view.read (Elt F) X_arg14) (p.1.emb x))
      ∧ (∀ y : S1024x1.Idx, (y 0).val < 64 * n → ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 n).2, y ∈ p.1.set)) := by
  induction n with
  | zero => exact ⟨⟨fun p hp => absurd hp List.not_mem_nil, fun y hy => absurd hy (by omega)⟩, ⟨fun p hp => absurd hp List.not_mem_nil, fun y hy => absurd hy (by omega)⟩⟩
  | succ n ih =>
    obtain ⟨⟨a1, a2⟩, b1, b2⟩ := ih (by omega)
    have hn' : n < k0_t2_loop.trips := by rw [trips2]; omega
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 ⟨n, hn'⟩
    rw [tripL2_eq] at e
    simp only at e
    rw [e]
    refine ⟨⟨fun p hp x => ?_, fun y hy => ?_⟩, fun p hp x => ?_, fun y hy => ?_⟩
    · simp only [List.cons_append, List.nil_append, List.mem_cons] at hp
      rcases hp with rfl | rfl | rfl | rfl | rfl | rfl | rfl | rfl | rfl | hp
      · obtain ⟨e0, e1⟩ := emb_rows (N := 1024) (w := 384) (n := 3456) n 8 _ (k0_off23_eq ⟨n, hn'⟩) (k0_off23_inb i ⟨n, hn'⟩ k0_h3) x
        rw [HC_block _ _ 8 n (by omega) _ x e0 e1]
        exact congrFun (congrArg₂ rowHC (congrArg rowHI (ld_rows _ n (by omega) _ (k0_off4_eq ⟨n, hn'⟩) _)) (ld_tile _ 8 n (by omega) _ (k0_off22_eq ⟨n, hn'⟩) _)) x
      · obtain ⟨e0, e1⟩ := emb_rows (N := 1024) (w := 384) (n := 3456) n 7 _ (k0_off21_eq ⟨n, hn'⟩) (k0_off21_inb i ⟨n, hn'⟩ k0_h3) x
        rw [HC_block _ _ 7 n (by omega) _ x e0 e1]
        exact congrFun (congrArg₂ rowHC (congrArg rowHI (ld_rows _ n (by omega) _ (k0_off4_eq ⟨n, hn'⟩) _)) (ld_tile _ 7 n (by omega) _ (k0_off20_eq ⟨n, hn'⟩) _)) x
      · obtain ⟨e0, e1⟩ := emb_rows (N := 1024) (w := 384) (n := 3456) n 6 _ (k0_off19_eq ⟨n, hn'⟩) (k0_off19_inb i ⟨n, hn'⟩ k0_h3) x
        rw [HC_block _ _ 6 n (by omega) _ x e0 e1]
        exact congrFun (congrArg₂ rowHC (congrArg rowHI (ld_rows _ n (by omega) _ (k0_off4_eq ⟨n, hn'⟩) _)) (ld_tile _ 6 n (by omega) _ (k0_off18_eq ⟨n, hn'⟩) _)) x
      · obtain ⟨e0, e1⟩ := emb_rows (N := 1024) (w := 384) (n := 3456) n 5 _ (k0_off17_eq ⟨n, hn'⟩) (k0_off17_inb i ⟨n, hn'⟩ k0_h3) x
        rw [HC_block _ _ 5 n (by omega) _ x e0 e1]
        exact congrFun (congrArg₂ rowHC (congrArg rowHI (ld_rows _ n (by omega) _ (k0_off4_eq ⟨n, hn'⟩) _)) (ld_tile _ 5 n (by omega) _ (k0_off16_eq ⟨n, hn'⟩) _)) x
      · obtain ⟨e0, e1⟩ := emb_rows (N := 1024) (w := 384) (n := 3456) n 4 _ (k0_off15_eq ⟨n, hn'⟩) (k0_off15_inb i ⟨n, hn'⟩ k0_h3) x
        rw [HC_block _ _ 4 n (by omega) _ x e0 e1]
        exact congrFun (congrArg₂ rowHC (congrArg rowHI (ld_rows _ n (by omega) _ (k0_off4_eq ⟨n, hn'⟩) _)) (ld_tile _ 4 n (by omega) _ (k0_off14_eq ⟨n, hn'⟩) _)) x
      · obtain ⟨e0, e1⟩ := emb_rows (N := 1024) (w := 384) (n := 3456) n 3 _ (k0_off13_eq ⟨n, hn'⟩) (k0_off13_inb i ⟨n, hn'⟩ k0_h3) x
        rw [HC_block _ _ 3 n (by omega) _ x e0 e1]
        exact congrFun (congrArg₂ rowHC (congrArg rowHI (ld_rows _ n (by omega) _ (k0_off4_eq ⟨n, hn'⟩) _)) (ld_tile _ 3 n (by omega) _ (k0_off12_eq ⟨n, hn'⟩) _)) x
      · obtain ⟨e0, e1⟩ := emb_rows (N := 1024) (w := 384) (n := 3456) n 2 _ (k0_off11_eq ⟨n, hn'⟩) (k0_off11_inb i ⟨n, hn'⟩ k0_h3) x
        rw [HC_block _ _ 2 n (by omega) _ x e0 e1]
        exact congrFun (congrArg₂ rowHC (congrArg rowHI (ld_rows _ n (by omega) _ (k0_off4_eq ⟨n, hn'⟩) _)) (ld_tile _ 2 n (by omega) _ (k0_off10_eq ⟨n, hn'⟩) _)) x
      · obtain ⟨e0, e1⟩ := emb_rows (N := 1024) (w := 384) (n := 3456) n 1 _ (k0_off9_eq ⟨n, hn'⟩) (k0_off9_inb i ⟨n, hn'⟩ k0_h3) x
        rw [HC_block _ _ 1 n (by omega) _ x e0 e1]
        exact congrFun (congrArg₂ rowHC (congrArg rowHI (ld_rows _ n (by omega) _ (k0_off4_eq ⟨n, hn'⟩) _)) (ld_tile _ 1 n (by omega) _ (k0_off8_eq ⟨n, hn'⟩) _)) x
      · obtain ⟨e0, e1⟩ := emb_rows (N := 1024) (w := 384) (n := 3456) n 0 _ (k0_off7_eq ⟨n, hn'⟩) (k0_off7_inb i ⟨n, hn'⟩ k0_h3) x
        rw [HC_block _ _ 0 n (by omega) _ x e0 e1]
        exact congrFun (congrArg₂ rowHC (congrArg rowHI (ld_rows _ n (by omega) _ (k0_off4_eq ⟨n, hn'⟩) _)) (ld_tile _ 0 n (by omega) _ (k0_off6_eq ⟨n, hn'⟩) _)) x
      · exact a1 p hp x
    · by_cases hy' : (y 0).val < 64 * n
      · obtain ⟨p, hp, hm⟩ := a2 y hy'
        exact ⟨p, List.mem_append_right _ hp, hm⟩
      · have hy1 : (y 1).val < 3456 := (y 1).isLt
        have hc : (y 1).val / 384 = 0 ∨ (y 1).val / 384 = 1 ∨ (y 1).val / 384 = 2 ∨ (y 1).val / 384 = 3 ∨ (y 1).val / 384 = 4 ∨ (y 1).val / 384 = 5 ∨ (y 1).val / 384 = 6 ∨ (y 1).val / 384 = 7 ∨ (y 1).val / 384 = 8 := by omega
        rcases hc with hc | hc | hc | hc | hc | hc | hc | hc | hc
        · exact ⟨_, List.mem_of_getElem? (i := 8) rfl, mem_rows (N := 1024) (w := 384) (n := 3456) n 0 _ (k0_off7_eq ⟨n, hn'⟩) (k0_off7_inb i ⟨n, hn'⟩ k0_h3) y (by omega) (by omega) (by omega) (by omega)⟩
        · exact ⟨_, List.mem_of_getElem? (i := 7) rfl, mem_rows (N := 1024) (w := 384) (n := 3456) n 1 _ (k0_off9_eq ⟨n, hn'⟩) (k0_off9_inb i ⟨n, hn'⟩ k0_h3) y (by omega) (by omega) (by omega) (by omega)⟩
        · exact ⟨_, List.mem_of_getElem? (i := 6) rfl, mem_rows (N := 1024) (w := 384) (n := 3456) n 2 _ (k0_off11_eq ⟨n, hn'⟩) (k0_off11_inb i ⟨n, hn'⟩ k0_h3) y (by omega) (by omega) (by omega) (by omega)⟩
        · exact ⟨_, List.mem_of_getElem? (i := 5) rfl, mem_rows (N := 1024) (w := 384) (n := 3456) n 3 _ (k0_off13_eq ⟨n, hn'⟩) (k0_off13_inb i ⟨n, hn'⟩ k0_h3) y (by omega) (by omega) (by omega) (by omega)⟩
        · exact ⟨_, List.mem_of_getElem? (i := 4) rfl, mem_rows (N := 1024) (w := 384) (n := 3456) n 4 _ (k0_off15_eq ⟨n, hn'⟩) (k0_off15_inb i ⟨n, hn'⟩ k0_h3) y (by omega) (by omega) (by omega) (by omega)⟩
        · exact ⟨_, List.mem_of_getElem? (i := 3) rfl, mem_rows (N := 1024) (w := 384) (n := 3456) n 5 _ (k0_off17_eq ⟨n, hn'⟩) (k0_off17_inb i ⟨n, hn'⟩ k0_h3) y (by omega) (by omega) (by omega) (by omega)⟩
        · exact ⟨_, List.mem_of_getElem? (i := 2) rfl, mem_rows (N := 1024) (w := 384) (n := 3456) n 6 _ (k0_off19_eq ⟨n, hn'⟩) (k0_off19_inb i ⟨n, hn'⟩ k0_h3) y (by omega) (by omega) (by omega) (by omega)⟩
        · exact ⟨_, List.mem_of_getElem? (i := 1) rfl, mem_rows (N := 1024) (w := 384) (n := 3456) n 7 _ (k0_off21_eq ⟨n, hn'⟩) (k0_off21_inb i ⟨n, hn'⟩ k0_h3) y (by omega) (by omega) (by omega) (by omega)⟩
        · exact ⟨_, List.mem_of_getElem? (i := 0) rfl, mem_rows (N := 1024) (w := 384) (n := 3456) n 8 _ (k0_off23_eq ⟨n, hn'⟩) (k0_off23_inb i ⟨n, hn'⟩ k0_h3) y (by omega) (by omega) (by omega) (by omega)⟩
    · rcases List.mem_cons.mp hp with rfl | hp
      · obtain ⟨e0, e1⟩ := emb_rows (N := 1024) (w := 1) (n := 1) n 0 _ (k0_off5_eq ⟨n, hn'⟩) (k0_off5_inb i ⟨n, hn'⟩ k0_h3) x
        rw [HS_block _ n (by omega) _ x e0 (by rw [e1]; omega)]
        exact congrFun (congrArg rowHS (ld_rows _ n (by omega) _ (k0_off4_eq ⟨n, hn'⟩) _)) x
      · exact b1 p hp x
    · by_cases hy' : (y 0).val < 64 * n
      · obtain ⟨p, hp, hm⟩ := b2 y hy'
        exact ⟨p, List.mem_cons_of_mem _ hp, hm⟩
      · have hy1 : (y 1).val < 1 := (y 1).isLt
        exact ⟨_, List.mem_cons_self, mem_rows (N := 1024) (w := 1) (n := 1) n 0 _ (k0_off5_eq ⟨n, hn'⟩) (k0_off5_inb i ⟨n, hn'⟩ k0_h3) y (by omega) (by omega) (by omega) (by omega)⟩

/-- After the first loop the codes buffer reads `XC`, whatever it held. -/
theorem read_loop1_codes (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k0_t1_loop.trips).1) = XC (arg1.view.read (Elt F) X_arg1) := by
  rw [trips1]
  obtain ⟨⟨a1, a2⟩, -⟩ := pb1_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16 le_rfl
  have hc : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16).1, y ∈ p.1.set := fun y => a2 y (by have : (y 0).val < 1024 := (y 0).isLt; omega)
  rw [View.read_writes_eq_canon _ _ _ hc]
  funext y
  exact View.canon_apply_of_pieces _ _ a1 y (hc y)

/-- After the first loop the scales buffer reads `XS`, whatever it held. -/
theorem read_loop1_scales (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h1 : k0_cond1 i = 1#1) (X_arg1 : BufTy.Contents (Elt F) arg1.view.ty) (G : BufTy.Contents (Elt F) arg10.view.ty) :
    arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 k0_t1_loop.trips).2) = XS (arg1.view.read (Elt F) X_arg1) := by
  rw [trips1]
  obtain ⟨-, a1, a2⟩ := pb1_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16 le_rfl
  have hc : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 16).2, y ∈ p.1.set := fun y => a2 y (by have : (y 0).val < 1024 := (y 0).isLt; omega)
  rw [View.read_writes_eq_canon _ _ _ hc]
  funext y
  exact View.canon_apply_of_pieces _ _ a1 y (hc y)

/-- After the second loop the hidden codes buffer reads `HC`, whatever it held. -/
theorem read_loop2_codes (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (G : BufTy.Contents (Elt F) arg11.view.ty) :
    arg11.view.read (Elt F) (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k0_t2_loop.trips).1) = HC (arg13.view.read (Elt F) X_arg13) (arg14.view.read (Elt F) X_arg14) := by
  rw [trips2]
  obtain ⟨⟨a1, a2⟩, -⟩ := pb2_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16 le_rfl
  have hc : ∀ y, ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16).1, y ∈ p.1.set := fun y => a2 y (by have : (y 0).val < 1024 := (y 0).isLt; omega)
  rw [View.read_writes_eq_canon _ _ _ hc]
  funext y
  exact View.canon_apply_of_pieces _ _ a1 y (hc y)

/-- After the second loop the hidden scales buffer reads `HS`, whatever it held. -/
theorem read_loop2_scales (𝒱 : Variants) (c : Dev nD) (bd : Option 𝒱.V) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole) (k0_h3 : k0_cond3 i = 1#1) (X_arg13 : BufTy.Contents (Elt F) arg13.view.ty) (X_arg14 : BufTy.Contents (Elt F) arg14.view.ty) (G : BufTy.Contents (Elt F) arg12.view.ty) :
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 k0_t2_loop.trips).2) = HS (arg14.view.read (Elt F) X_arg14) := by
  rw [trips2]
  obtain ⟨-, a1, a2⟩ := pb2_spec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16 le_rfl
  have hc : ∀ y, ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h3 X_arg13 X_arg14 16).2, y ∈ p.1.set := fun y => a2 y (by have : (y 0).val < 1024 := (y 0).isLt; omega)
  rw [View.read_writes_eq_canon _ _ _ hc]
  funext y
  exact View.canon_apply_of_pieces _ _ a1 y (hc y)

end Cert.KernelIdeal.Gen

end
-- ==== Proof.KernelIdealBody.lean ====
module

public import proofs.«01_k».proof.Proof.KernelIdealTrips
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The hidden tile point `i` computes from the codes, the scales and the point's two weight tiles with their scales. -/
def tileH (xs : Vec F S1024x1 .f32) (xc : Vec F S1024x5120 .fp8e4m3) (wg : Vec F S384x5120 .fp8e4m3) (sg : Vec F S1x384 .f32) (wu : Vec F S384x5120 .fp8e4m3) (su : Vec F S1x384 .f32) : FVec F S1x1024x384 .f32 :=
  k0_pay17 xs xc wg sg xc wu su

/-- The lane-wise running maximum after a point. -/
def stepM (xs : Vec F S1024x1 .f32) (xc : Vec F S1024x5120 .fp8e4m3) (wg : Vec F S384x5120 .fp8e4m3) (sg : Vec F S1x384 .f32) (wu : Vec F S384x5120 .fp8e4m3) (su : Vec F S1x384 .f32) (mx : Vec F S1024x128 .f32) : FVec F S1024x128 .f32 :=
  k0_pay3 (k0_pay18 xs xc wg sg xc wu su) mx

/-- The hidden scratch with plane `(i 0)` replaced. -/
def putH (i : grid0.Coords) (h : Vec F S9x1024x384 .f32) (p : FVec F S1x1024x384 .f32) : Vec F S9x1024x384 .f32 :=
  fun y => if (y 0).val = (i 0).val then p (ix3 (0 : Fin 1) (y 1 : Fin 1024) (y 2 : Fin 384)) else h y

/-- A store of one plane of the hidden scratch reads as the plane put in. -/
theorem read_putH (arg13 : Memref sig .tc .vmem S9x1024x384 .f32) (i : grid0.Coords) (inb : ∀ a, (k0_off3 i) a + S1x1024x384.size a ≤ S9x1024x384.size a) (f : BufTy.Contents (Elt F) arg13.view.ty) (p : FVec F S1x1024x384 .f32) :
    arg13.view.read (Elt F) (arg13.view.writes (Elt F) f [⟨Rect.unit (s := S9x1024x384) (k0_off3 i) S1x1024x384.size inb, p⟩]) = putH i (arg13.view.read (Elt F) f) p := by
  funext y
  unfold putH
  have ho := k0_off3_eq i
  by_cases hy : (y 0).val = (i 0).val
  · rw [if_pos hy]
    have hm : y = (Rect.unit (s := S9x1024x384) (k0_off3 i) S1x1024x384.size inb).idx (ix3 (0 : Fin 1) (y 1 : Fin 1024) (y 2 : Fin 384)) := by
      funext a
      apply Fin.ext
      fin_cases a
      · show (y 0).val = (k0_off3 i) 0 + 1 * 0
        rw [ho]; simpa using hy
      · show (y 1).val = (k0_off3 i) 1 + 1 * (y 1).val
        rw [ho]; simp
      · show (y 2).val = (k0_off3 i) 2 + 1 * (y 2).val
        rw [ho]; simp
    conv_lhs => rw [hm]
    exact View.read_writes_cons_emb _ _ _ _ _ _
  · rw [if_neg hy]
    rw [View.read_writes_cons_miss]
    · rfl
    · intro hm
      rw [Rect.mem_set_unit] at hm
      have h0 := hm 0
      rw [ho] at h0
      have h1 : (i 0).val ≤ (y 0).val := h0.1
      have h2 : (y 0).val < (i 0).val + 1 := h0.2
      omega

/-- A load of a whole rank-two buffer is what the buffer reads. -/
theorem readAt_whole {sp : Space} {d : Fin 2 → ℕ} {e : EltTy} (v : View sig .tc sp ⟨2, d⟩ e) (inb : ∀ a, (![0, 0] : Fin 2 → ℕ) a + d a ≤ d a) (f : BufTy.Contents (Elt F) v.ty) :
    View.readAt (Elt F) v (Rect.unit (s := ⟨2, d⟩) ![0, 0] d inb).toLoadRect f = v.read (Elt F) f :=
  View.ld_unit_zero (S := ⟨2, d⟩) (off := ![0, 0]) (by funext a; fin_cases a <;> rfl) inb _

/-- After a store of the whole of a rank-two buffer it reads the payload. -/
theorem read_store_whole {sp : Space} {d : Fin 2 → ℕ} {e : EltTy} (v : View sig .tc sp ⟨2, d⟩ e) (inb : ∀ a, (![0, 0] : Fin 2 → ℕ) a + d a ≤ d a) (f : BufTy.Contents (Elt F) v.ty)
    (w : (⟨2, d⟩ : Shape).Idx → Elt F e) (L : List (View.Piece (Elt F) ⟨2, d⟩ e)) :
    v.read (Elt F) (v.writes (Elt F) f (⟨Rect.unit (s := ⟨2, d⟩) ![0, 0] d inb, w⟩ :: L)) = w := by
  exact View.read_writes_full (s := ⟨2, d⟩) v f inb w L

set_option maxHeartbeats 1000000 in
/-- The body at the first point: it quantises the activation, then computes the first hidden tile. -/
theorem sound_first (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : k0_cond1 i = 1#1) (h2 : k0_cond2 i = 1#1) (h3 : ¬ k0_cond3 i = 1#1) (h4 : ¬ k0_cond4 i = 1#1)
    (x1 : Vec F S1024x5120 .bf16) (x2 : Vec F S384x5120 .fp8e4m3) (x3 : Vec F S384x5120 .fp8e4m3) (x4 : Vec F S1x384 .f32) (x5 : Vec F S1x384 .f32) (x9 : Vec F S1024x5120 .fp8e4m3) (x10 : Vec F S1024x1 .f32) (x13 : Vec F S9x1024x384 .f32) (x14 : Vec F S1024x128 .f32) (Q : Unit → sProp 𝕄) :
    iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare x13 ∗ owns (c : Thread nD τ) arg14 fullShare x14)
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare (XC x1) ∗ owns (c : Thread nD τ) arg10 fullShare (XS x1) ∗ owns (c : Thread nD τ) arg13 fullShare (putH i x13 (tileH (XS x1) (XC x1) x2 x4 x3 x5)) ∗ owns (c : Thread nD τ) arg14 fullShare (stepM (XS x1) (XC x1) x2 x4 x3 x5 k0_pay2)) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_pos h1, dif_pos h2, dif_neg h3, dif_neg h4]
  simp only [k0_part3_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, ⟨%f13, %hf13, H13⟩, ⟨%f14, %hf14, H14⟩⟩, Hk⟩
  subst hf1 hf2 hf3 hf4 hf5 hf9 hf10 hf13 hf14
  sl_exec
  have e12 : sound_first.sl.v12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10 = XS (arg1.view.read (Elt F) f1) := by
    unfold sound_first.sl.v12
    exact (readAt_whole _ _ _).trans (read_loop1_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10)
  have e14 : sound_first.sl.v14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9 = XC (arg1.view.read (Elt F) f1) := by
    unfold sound_first.sl.v14
    exact (readAt_whole _ _ _).trans (read_loop1_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9)
  have er : sound_first.sl.r (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f2 f3 f4 f5 f9 f10 = k0_pay18 (XS (arg1.view.read (Elt F) f1)) (XC (arg1.view.read (Elt F) f1)) (arg2.view.read (Elt F) f2) (arg4.view.read (Elt F) f4) (XC (arg1.view.read (Elt F) f1)) (arg3.view.read (Elt F) f3) (arg5.view.read (Elt F) f5) := by
    unfold sound_first.sl.r
    rw [e12, e14, readAt_whole, readAt_whole, readAt_whole, readAt_whole]
  have e48 : sound_first.sl.v48 (F := F) c arg14 = k0_pay2 := by
    unfold sound_first.sl.v48
    exact View.readCov_unit_zero _ (by funext a; fin_cases a <;> rfl) _ _
  sl_step
  iapply Hk
  isplitl [H1]
  · iexists _
    isplitr
    swap
    · iexact H1
    ipureintro
    rfl
  isplitl [H2]
  · iexists _
    isplitr
    swap
    · iexact H2
    ipureintro
    rfl
  isplitl [H3]
  · iexists _
    isplitr
    swap
    · iexact H3
    ipureintro
    rfl
  isplitl [H4]
  · iexists _
    isplitr
    swap
    · iexact H4
    ipureintro
    rfl
  isplitl [H5]
  · iexists _
    isplitr
    swap
    · iexact H5
    ipureintro
    rfl
  isplitl [H9]
  · iexists _
    isplitr
    swap
    · iexact H9
    ipureintro
    exact read_loop1_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f9
  isplitl [H10]
  · iexists _
    isplitr
    swap
    · iexact H10
    ipureintro
    exact read_loop1_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h1 f1 f10
  isplitl [H13]
  · iexists _
    isplitr
    swap
    · iexact H13
    ipureintro
    refine (read_putH arg13 i _ f13 _).trans ?_
    rw [e12, e14, readAt_whole, readAt_whole, readAt_whole, readAt_whole]
    rfl
  · iexists _
    isplitr
    swap
    · iexact H14
    ipureintro
    refine (read_store_whole _ _ _ _ _).trans ?_
    rw [er, e48]
    rfl

set_option maxHeartbeats 1000000 in
/-- The body at a later point of the first half: it computes one hidden tile from the codes and scales already there. -/
theorem sound_gate (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : k0_cond2 i = 1#1) (h3 : ¬ k0_cond3 i = 1#1) (h4 : ¬ k0_cond4 i = 1#1)
    (x2 : Vec F S384x5120 .fp8e4m3) (x3 : Vec F S384x5120 .fp8e4m3) (x4 : Vec F S1x384 .f32) (x5 : Vec F S1x384 .f32) (x9 : Vec F S1024x5120 .fp8e4m3) (x10 : Vec F S1024x1 .f32) (x13 : Vec F S9x1024x384 .f32) (x14 : Vec F S1024x128 .f32) (Q : Unit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare x13 ∗ owns (c : Thread nD τ) arg14 fullShare x14)
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ owns (c : Thread nD τ) arg13 fullShare (putH i x13 (tileH x10 x9 x2 x4 x3 x5)) ∗ owns (c : Thread nD τ) arg14 fullShare (stepM x10 x9 x2 x4 x3 x5 x14)) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_pos h2, dif_neg h3, dif_neg h4]
  simp only [k0_part3_eq_skeleton]
  unfold owns
  iintro ⟨⟨⟨%f2, %hf2, H2⟩, ⟨%f3, %hf3, H3⟩, ⟨%f4, %hf4, H4⟩, ⟨%f5, %hf5, H5⟩, ⟨%f9, %hf9, H9⟩, ⟨%f10, %hf10, H10⟩, ⟨%f13, %hf13, H13⟩, ⟨%f14, %hf14, H14⟩⟩, Hk⟩
  subst hf2 hf3 hf4 hf5 hf9 hf10 hf13 hf14
  sl_exec
  sl_step
  iapply Hk
  isplitl [H2]
  · iexists _
    isplitr
    swap
    · iexact H2
    ipureintro
    rfl
  isplitl [H3]
  · iexists _
    isplitr
    swap
    · iexact H3
    ipureintro
    rfl
  isplitl [H4]
  · iexists _
    isplitr
    swap
    · iexact H4
    ipureintro
    rfl
  isplitl [H5]
  · iexists _
    isplitr
    swap
    · iexact H5
    ipureintro
    rfl
  isplitl [H9]
  · iexists _
    isplitr
    swap
    · iexact H9
    ipureintro
    rfl
  isplitl [H10]
  · iexists _
    isplitr
    swap
    · iexact H10
    ipureintro
    rfl
  isplitl [H13]
  · iexists _
    isplitr
    swap
    · iexact H13
    ipureintro
    refine (read_putH arg13 i _ f13 _).trans ?_
    simp only [readAt_whole]
    rfl
  · iexists _
    isplitr
    swap
    · iexact H14
    ipureintro
    refine (read_store_whole _ _ _ _ _).trans ?_
    unfold sound_gate.sl.r
    simp only [readAt_whole]
    rfl

set_option maxHeartbeats 1000000 in
/-- The body at the point between the halves: it quantises the hidden rows and computes the first output tile. -/
theorem sound_turn (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : ¬ k0_cond2 i = 1#1) (h3 : k0_cond3 i = 1#1) (h4 : k0_cond4 i = 1#1)
    (x6 : Vec F S512x3456 .fp8e4m3) (x7 : Vec F S1x512 .f32) (x8 : Vec F S1024x512 .bf16) (x11 : Vec F S1024x3456 .fp8e4m3) (x12 : Vec F S1024x1 .f32) (x13 : Vec F S9x1024x384 .f32) (x14 : Vec F S1024x128 .f32) (Q : Unit → sProp 𝕄) :
    iprop((owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14)
      ∗ ((owns (c : Thread nD τ) arg6 fullShare x6 ∗ owns (c : Thread nD τ) arg7 fullShare x7 ∗ owns (c : Thread nD τ) arg8 fullShare (k0_pay6 (HC x13 x14) x6 (HS x14) x7) ∗ owns (c : Thread nD τ) arg11 fullShare (HC x13 x14) ∗ owns (c : Thread nD τ) arg12 fullShare (HS x14) ∗ owns (c : Thread nD τ) arg13 fullShare x13 ∗ owns (c : Thread nD τ) arg14 fullShare x14) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_neg h2, dif_pos h3, dif_pos h4]
  unfold owns
  iintro ⟨⟨⟨%f6, %hf6, H6⟩, ⟨%f7, %hf7, H7⟩, ⟨%f8, %hf8, H8⟩, ⟨%f11, %hf11, H11⟩, ⟨%f12, %hf12, H12⟩, ⟨%f13, %hf13, H13⟩, ⟨%f14, %hf14, H14⟩⟩, Hk⟩
  subst hf6 hf7 hf8 hf11 hf12 hf13 hf14
  sl_exec
  have e12 : sound_turn.sl.v12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f11 f13 f14 = HC (arg13.view.read (Elt F) f13) (arg14.view.read (Elt F) f14) := by
    unfold sound_turn.sl.v12
    exact (readAt_whole _ _ _).trans (read_loop2_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f11)
  have e16 : sound_turn.sl.v16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f12 f13 f14 = HS (arg14.view.read (Elt F) f14) := by
    unfold sound_turn.sl.v16
    exact (readAt_whole _ _ _).trans (read_loop2_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f12)
  sl_step
  iapply Hk
  isplitl [H6]
  · iexists _
    isplitr
    swap
    · iexact H6
    ipureintro
    rfl
  isplitl [H7]
  · iexists _
    isplitr
    swap
    · iexact H7
    ipureintro
    rfl
  isplitl [H8]
  · iexists _
    isplitr
    swap
    · iexact H8
    ipureintro
    refine (read_store_whole _ _ _ _ _).trans ?_
    rw [e12, e16, readAt_whole, readAt_whole]
  isplitl [H11]
  · iexists _
    isplitr
    swap
    · iexact H11
    ipureintro
    exact read_loop2_codes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f11
  isplitl [H12]
  · iexists _
    isplitr
    swap
    · iexact H12
    ipureintro
    exact read_loop2_scales (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h3 f13 f14 f12
  isplitl [H13]
  · iexists _
    isplitr
    swap
    · iexact H13
    ipureintro
    rfl
  · iexists _
    isplitr
    swap
    · iexact H14
    ipureintro
    rfl

set_option maxHeartbeats 1000000 in
/-- The body at a later point of the second half: it computes one output tile. -/
theorem sound_out (𝒱 : Variants) (c : Dev nD) (bd : Option 𝒱.V) (E : Set ℕ) (i : grid0.Coords) (arg1 : Memref sig .tc .vmem S1024x5120 .bf16) (harg1 : arg1.IsWhole) (arg2 : Memref sig .tc .vmem S384x5120 .fp8e4m3) (harg2 : arg2.IsWhole) (arg3 : Memref sig .tc .vmem S384x5120 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S512x3456 .fp8e4m3) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S1024x3456 .fp8e4m3) (harg11 : arg11.IsWhole) (arg12 : Memref sig .tc .vmem S1024x1 .f32) (harg12 : arg12.IsWhole) (arg13 : Memref sig .tc .vmem S9x1024x384 .f32) (harg13 : arg13.IsWhole) (arg14 : Memref sig .tc .vmem S1024x128 .f32) (harg14 : arg14.IsWhole)
    (h1 : ¬ k0_cond1 i = 1#1) (h2 : ¬ k0_cond2 i = 1#1) (h3 : ¬ k0_cond3 i = 1#1) (h4 : k0_cond4 i = 1#1)
    (x6 : Vec F S512x3456 .fp8e4m3) (x7 : Vec F S1x512 .f32) (x8 : Vec F S1024x512 .bf16) (x11 : Vec F S1024x3456 .fp8e4m3) (x12 : Vec F S1024x1 .f32) (Q : Unit → sProp 𝕄) :
    iprop((owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12)
      ∗ ((owns (c : Thread nD τ) arg6 fullShare x6 ∗ owns (c : Thread nD τ) arg7 fullShare x7 ∗ owns (c : Thread nD τ) arg8 fullShare (k0_pay6 x11 x6 x12 x7) ∗ owns (c : Thread nD τ) arg11 fullShare x11 ∗ owns (c : Thread nD τ) arg12 fullShare x12) -∗ Q ()))
      ⊢ wp frame (wpE (defs₀ (F := F)) 𝒱 (c : Thread nD τ) bd) E (cc0_fp8_gated_mlp (F := F) i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0_fp8_gated_mlp_eq_skeleton]
  unfold cc0_fp8_gated_mlp_skel
  simp only [dif_neg h1, dif_neg h2, dif_neg h3, dif_pos h4]
  unfold owns
  iintro ⟨⟨⟨%f6, %hf6, H6⟩, ⟨%f7, %hf7, H7⟩, ⟨%f8, %hf8, H8⟩, ⟨%f11, %hf11, H11⟩, ⟨%f12, %hf12, H12⟩⟩, Hk⟩
  subst hf6 hf7 hf8 hf11 hf12
  sl_exec
  sl_step
  iapply Hk
  isplitl [H6]
  · iexists _
    isplitr
    swap
    · iexact H6
    ipureintro
    rfl
  isplitl [H7]
  · iexists _
    isplitr
    swap
    · iexact H7
    ipureintro
    rfl
  isplitl [H8]
  · iexists _
    isplitr
    swap
    · iexact H8
    ipureintro
    refine (read_store_whole _ _ _ _ _).trans ?_
    simp only [readAt_whole]
  isplitl [H11]
  · iexists _
    isplitr
    swap
    · iexact H11
    ipureintro
    rfl
  · iexists _
    isplitr
    swap
    · iexact H12
    ipureintro
    rfl

end Cert.KernelIdeal.Gen

end
-- ==== Proof.KernelIdealData.lean ====
module

public import proofs.«01_k».proof.Proof.KernelIdealBody
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (RDat Cfg Window)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, as functions of the windows' blocks -/

/-- The first grid point. -/
def t0 : Fin cfg0.N := ⟨0, by decide⟩
/-- Grid point `j` of the first half. -/
def tj (j : ℕ) (hj : j < 9) : Fin cfg0.N := ⟨j, by have : cfg0.N = 19 := N_0; omega⟩

/-- The activation's codes. -/
def XCt (c : Dev nD) : S1024x5120.Idx → Elt F .fp8e4m3 := XC (iblk m c 0 t0)
/-- The activation's scales. -/
def XSt (c : Dev nD) : S1024x1.Idx → Elt F .f32 := XS (iblk m c 0 t0)
/-- The hidden tile of point `t`. -/
def TH (c : Dev nD) (t : Fin cfg0.N) : S1x1024x384.Idx → Elt F .f32 :=
  tileH (XSt m c) (XCt m c) (iblk m c 1 t) (iblk m c 3 t) (iblk m c 2 t) (iblk m c 4 t)
/-- The hidden scratch once all nine tiles are in. -/
def HH (c : Dev nD) : S9x1024x384.Idx → Elt F .f32 := fun y =>
  TH m c (tj (y 0).val (y 0).isLt) (ix3 (0 : Fin 1) (y 1 : Fin 1024) (y 2 : Fin 384))
/-- The lane-wise running maximum before point `n`. -/
def MX (c : Dev nD) : ℕ → S1024x128.Idx → Elt F .f32
  | 0 => k0_pay2
  | n + 1 => if h : n < 9 then stepM (XSt m c) (XCt m c) (iblk m c 1 (tj n h)) (iblk m c 3 (tj n h)) (iblk m c 2 (tj n h)) (iblk m c 4 (tj n h)) (MX c n) else MX c n
/-- The hidden rows' codes. -/
def HCt (c : Dev nD) : S1024x3456.Idx → Elt F .fp8e4m3 := HC (HH m c) (MX m c 9)
/-- The hidden rows' scales. -/
def HSt (c : Dev nD) : S1024x1.Idx → Elt F .f32 := HS (MX m c 9)
/-- The output tile of point `t`. -/
def OUTt (c : Dev nD) (t : Fin cfg0.N) : S1024x512.Idx → Elt F .bf16 := k0_pay6 (HCt m c) (iblk m c 5 t) (HSt m c) (iblk m c 6 t)

/-- What the two scratch buffers hold before point `n`: the hidden tiles of the points before it, and their running maximum. -/
def Good (c : Dev nD) (n : ℕ) (h : S9x1024x384.Idx → Elt F .f32) (mx : S1024x128.Idx → Elt F .f32) : Prop :=
  (∀ y, (y 0).val < n → h y = HH m c y) ∧ (0 < n → n ≤ 9 → mx = MX m c n)

/-- The invariant before point `n`: the scratch buffers at `Good` contents, and the generator register. -/
def Inv (c : Dev nD) (n : ℕ) : sProp 𝕄 :=
  iprop(∃ h : S9x1024x384.Idx → Elt F .f32, ∃ mx : S1024x128.Idx → Elt F .f32, ⌜Good m c n h mx⌝
    ∗ owns (c : Thread nD τ) (Memref.whole cc0_scratch0) fullShare h ∗ owns (c : Thread nD τ) (Memref.whole cc0_scratch1) fullShare mx ∗ ∃ r, prngReg c r)

/-- The proof data: the inputs are left as found; the output tile is named from the turn on, the activation's codes and scales at every point,
    the hidden rows' codes and scales from the turn on. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => 9 ≤ t.val → X = OUTt m c t
    | ⟨8, _⟩ => fun _ X => X = XCt m c
    | ⟨9, _⟩ => fun _ X => X = XSt m c
    | ⟨10, _⟩ => fun _ X => 9 ≤ t.val → X = HCt m c
    | ⟨11, _⟩ => fun _ X => 9 ≤ t.val → X = HSt m c
  Φ t := Inv m c t.val
  q w := Pipeline.shareOf spec0 w
  owed _ := 0

/-- The run data's arrays are the arrays as the call finds them. -/
theorem rA_eq (c : Dev nD) (w : Fin cfg0.W) : (rdat m c).A w = V m c (Pipeline.arrRef spec0 w) := by
  dsimp only [rdat]

theorem rafter_0 (c : Dev nD) (t : Fin cfg0.N) (Y X : (cfg0.win 0).block.Idx → Elt F (cfg0.win 0).elt) : (rdat m c).after 0 t Y X = (X = Y) := by dsimp only [rdat]
theorem rafter_1 (c : Dev nD) (t : Fin cfg0.N) (Y X : (cfg0.win 1).block.Idx → Elt F (cfg0.win 1).elt) : (rdat m c).after 1 t Y X = (X = Y) := by dsimp only [rdat]
theorem rafter_2 (c : Dev nD) (t : Fin cfg0.N) (Y X : (cfg0.win 2).block.Idx → Elt F (cfg0.win 2).elt) : (rdat m c).after 2 t Y X = (X = Y) := by dsimp only [rdat]
theorem rafter_3 (c : Dev nD) (t : Fin cfg0.N) (Y X : (cfg0.win 3).block.Idx → Elt F (cfg0.win 3).elt) : (rdat m c).after 3 t Y X = (X = Y) := by dsimp only [rdat]
theorem rafter_4 (c : Dev nD) (t : Fin cfg0.N) (Y X : (cfg0.win 4).block.Idx → Elt F (cfg0.win 4).elt) : (rdat m c).after 4 t Y X = (X = Y) := by dsimp only [rdat]
theorem rafter_5 (c : Dev nD) (t : Fin cfg0.N) (Y X : (cfg0.win 5).block.Idx → Elt F (cfg0.win 5).elt) : (rdat m c).after 5 t Y X = (X = Y) := by dsimp only [rdat]
theorem rafter_6 (c : Dev nD) (t : Fin cfg0.N) (Y X : (cfg0.win 6).block.Idx → Elt F (cfg0.win 6).elt) : (rdat m c).after 6 t Y X = (X = Y) := by dsimp only [rdat]
theorem rafter_7 (c : Dev nD) (t : Fin cfg0.N) (Y X : (cfg0.win 7).block.Idx → Elt F (cfg0.win 7).elt) : (rdat m c).after 7 t Y X = ((9 ≤ t.val → X = OUTt m c t)) := by dsimp only [rdat]
theorem rafter_8 (c : Dev nD) (t : Fin cfg0.N) (Y X : (cfg0.win 8).block.Idx → Elt F (cfg0.win 8).elt) : (rdat m c).after 8 t Y X = (X = XCt m c) := by dsimp only [rdat]
theorem rafter_9 (c : Dev nD) (t : Fin cfg0.N) (Y X : (cfg0.win 9).block.Idx → Elt F (cfg0.win 9).elt) : (rdat m c).after 9 t Y X = (X = XSt m c) := by dsimp only [rdat]
theorem rafter_10 (c : Dev nD) (t : Fin cfg0.N) (Y X : (cfg0.win 10).block.Idx → Elt F (cfg0.win 10).elt) : (rdat m c).after 10 t Y X = ((9 ≤ t.val → X = HCt m c)) := by dsimp only [rdat]
theorem rafter_11 (c : Dev nD) (t : Fin cfg0.N) (Y X : (cfg0.win 11).block.Idx → Elt F (cfg0.win 11).elt) : (rdat m c).after 11 t Y X = ((9 ≤ t.val → X = HSt m c)) := by dsimp only [rdat]

/-! ## What the body finds in the staging buffers -/

/-- Input window 0's staging buffer holds its block. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [rafter_0] at h; exact h) t Y h
  refine hd.trans ?_
  unfold RDat.fetched RDat.blockOf iblk
  rw [rA_eq]
  try rfl

/-- Input window 1's staging buffer holds its block. -/
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [rafter_1] at h; exact h) t Y h
  refine hd.trans ?_
  unfold RDat.fetched RDat.blockOf iblk
  rw [rA_eq]
  try rfl

/-- Input window 2's staging buffer holds its block. -/
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [rafter_2] at h; exact h) t Y h
  refine hd.trans ?_
  unfold RDat.fetched RDat.blockOf iblk
  rw [rA_eq]
  try rfl

/-- Input window 3's staging buffer holds its block. -/
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [rafter_3] at h; exact h) t Y h
  refine hd.trans ?_
  unfold RDat.fetched RDat.blockOf iblk
  rw [rA_eq]
  try rfl

/-- Input window 4's staging buffer holds its block. -/
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rw [rafter_4] at h; exact h) t Y h
  refine hd.trans ?_
  unfold RDat.fetched RDat.blockOf iblk
  rw [rA_eq]
  try rfl

/-- Input window 5's staging buffer holds its block. -/
theorem finds_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => by rw [rafter_5] at h; exact h) t Y h
  refine hd.trans ?_
  unfold RDat.fetched RDat.blockOf iblk
  rw [rA_eq]
  try rfl

/-- Input window 6's staging buffer holds its block. -/
theorem finds_6 (c : Dev nD) (t : Fin cfg0.N) (Y) (h : (rdat m c).Finds 6 t Y) : Y = iblk m c 6 t := by
  obtain ⟨d, hd⟩ := (rdat m c).finds_in_eq_fetched 6 rfl (fun _ _ _ => rfl) (fun t Y X h => by rw [rafter_6] at h; exact h) t Y h
  refine hd.trans ?_
  unfold RDat.fetched RDat.blockOf iblk
  rw [rA_eq]
  try rfl

/-- Output window 8's staging buffer keeps what the earlier points left. -/
theorem finds_8 (c : Dev nD) (t : Fin cfg0.N) (ht : 0 < t.val) (Y) (h : (rdat m c).Finds 8 t Y) : Y = XCt m c := by
  have hN : t.val < 19 := lt_of_lt_of_eq t.isLt N_0
  rcases ((rdat m c).finds_of_pos ((cfg0.win 8).fetch_out rfl t) (by omega) Y).mp h with hf | ⟨Y', -, hY⟩
  · rw [flush0_8] at hf
    simp only at hf
    omega
  · rw [rafter_8] at hY
    exact hY

/-- Output window 9's staging buffer keeps what the earlier points left. -/
theorem finds_9 (c : Dev nD) (t : Fin cfg0.N) (ht : 0 < t.val) (Y) (h : (rdat m c).Finds 9 t Y) : Y = XSt m c := by
  have hN : t.val < 19 := lt_of_lt_of_eq t.isLt N_0
  rcases ((rdat m c).finds_of_pos ((cfg0.win 9).fetch_out rfl t) (by omega) Y).mp h with hf | ⟨Y', -, hY⟩
  · rw [flush0_9] at hf
    simp only at hf
    omega
  · rw [rafter_9] at hY
    exact hY

/-- Output window 10's staging buffer keeps what the earlier points left. -/
theorem finds_10 (c : Dev nD) (t : Fin cfg0.N) (ht : 9 < t.val) (Y) (h : (rdat m c).Finds 10 t Y) : Y = HCt m c := by
  have hN : t.val < 19 := lt_of_lt_of_eq t.isLt N_0
  rcases ((rdat m c).finds_of_pos ((cfg0.win 10).fetch_out rfl t) (by omega) Y).mp h with hf | ⟨Y', -, hY⟩
  · rw [flush0_10] at hf
    simp only at hf
    omega
  · rw [rafter_10] at hY
    exact hY (by show 9 ≤ t.val - 1; omega)

/-- Output window 11's staging buffer keeps what the earlier points left. -/
theorem finds_11 (c : Dev nD) (t : Fin cfg0.N) (ht : 9 < t.val) (Y) (h : (rdat m c).Finds 11 t Y) : Y = HSt m c := by
  have hN : t.val < 19 := lt_of_lt_of_eq t.isLt N_0
  rcases ((rdat m c).finds_of_pos ((cfg0.win 11).fetch_out rfl t) (by omega) Y).mp h with hf | ⟨Y', -, hY⟩
  · rw [flush0_11] at hf
    simp only at hf
    omega
  · rw [rafter_11] at hY
    exact hY (by show 9 ≤ t.val - 1; omega)

/-! ## The body at each point -/

/-- The first branch runs at the first point. -/
theorem c1_iff : ∀ t : Fin grid0.N, k0_cond1 (grid0.coords t) = 1#1 ↔ t.val = 0 := by decide +kernel
/-- The second branch runs at the first nine points. -/
theorem c2_iff : ∀ t : Fin grid0.N, k0_cond2 (grid0.coords t) = 1#1 ↔ t.val < 9 := by decide +kernel
/-- The third branch runs at point 9. -/
theorem c3_iff : ∀ t : Fin grid0.N, k0_cond3 (grid0.coords t) = 1#1 ↔ t.val = 9 := by decide +kernel
/-- The fourth branch runs from point 9 on. -/
theorem c4_iff : ∀ t : Fin grid0.N, k0_cond4 (grid0.coords t) = 1#1 ↔ 9 ≤ t.val := by decide +kernel
/-- The grid has one coordinate, the point's number. -/
theorem coords_val : ∀ t : Fin grid0.N, (grid0.coords t 0).val = t.val := by decide +kernel

/-- One more hidden tile: the scratch buffers are good before the next point. -/
theorem good_step (c : Dev nD) (t : Fin cfg0.N) (ht : t.val < 9) (h : S9x1024x384.Idx → Elt F .f32) (mx mx' : S1024x128.Idx → Elt F .f32)
    (hg : ∀ y, (y 0).val < t.val → h y = HH m c y) (hm : mx = MX m c t.val)
    (hm' : mx' = stepM (XSt m c) (XCt m c) (iblk m c 1 t) (iblk m c 3 t) (iblk m c 2 t) (iblk m c 4 t) mx) :
    Good m c (t.val + 1) (putH (grid0.coords t) h (TH m c t)) mx' := by
  refine ⟨fun y hy => ?_, fun _ _ => ?_⟩
  · unfold putH
    rw [coords_val]
    by_cases hyt : (y 0).val = t.val
    · rw [if_pos hyt]
      unfold HH
      have : tj (y 0).val (y 0).isLt = t := Fin.ext hyt
      rw [this]
    · rw [if_neg hyt]
      exact hg y (by omega)
  · rw [hm', hm]
    show _ = if h : t.val < 9 then _ else _
    rw [dif_pos ht]
    rfl

set_option maxHeartbeats 2000000 in
/-- The body at any point, from the buffers it is handed to the buffers it leaves. -/
theorem sound_body (c : Dev nD) (t : Fin cfg0.N) (y0 : S1024x5120.Idx → Elt F .bf16) (y1 : S384x5120.Idx → Elt F .fp8e4m3) (y2 : S384x5120.Idx → Elt F .fp8e4m3) (y3 : S1x384.Idx → Elt F .f32) (y4 : S1x384.Idx → Elt F .f32) (y5 : S512x3456.Idx → Elt F .fp8e4m3) (y6 : S1x512.Idx → Elt F .f32) (y7 : S1024x512.Idx → Elt F .bf16) (y8 : S1024x5120.Idx → Elt F .fp8e4m3) (y9 : S1024x1.Idx → Elt F .f32) (y10 : S1024x3456.Idx → Elt F .fp8e4m3) (y11 : S1024x1.Idx → Elt F .f32)
    (h0 : y0 = iblk m c 0 t) (h1 : y1 = iblk m c 1 t) (h2 : y2 = iblk m c 2 t) (h3 : y3 = iblk m c 3 t) (h4 : y4 = iblk m c 4 t) (h5 : y5 = iblk m c 5 t) (h6 : y6 = iblk m c 6 t) (h8 : 0 < t.val → y8 = XCt m c) (h9 : 0 < t.val → y9 = XSt m c) (h10 : 9 < t.val → y10 = HCt m c) (h11 : 9 < t.val → y11 = HSt m c) :
    iprop(Inv m c t.val ∗ (rdat m c).owesAt () t.castSucc ∗ owns (c : Thread nD τ) (st0_0 t) fullShare y0 ∗ owns (c : Thread nD τ) (st0_1 t) fullShare y1 ∗ owns (c : Thread nD τ) (st0_2 t) fullShare y2 ∗ owns (c : Thread nD τ) (st0_3 t) fullShare y3 ∗ owns (c : Thread nD τ) (st0_4 t) fullShare y4 ∗ owns (c : Thread nD τ) (st0_5 t) fullShare y5 ∗ owns (c : Thread nD τ) (st0_6 t) fullShare y6 ∗ owns (c : Thread nD τ) (st0_7 t) fullShare y7 ∗ owns (c : Thread nD τ) (st0_8 t) fullShare y8 ∗ owns (c : Thread nD τ) (st0_9 t) fullShare y9 ∗ owns (c : Thread nD τ) (st0_10 t) fullShare y10 ∗ owns (c : Thread nD τ) (st0_11 t) fullShare y11)
      ⊢ wp frame (wpE (defs₀ (F := F)) Variants.none (c : Thread nD τ) none) Set.univ (bodyAt0 t) (fun _ =>
        iprop(Inv m c (t.val + 1) ∗ (rdat m c).owesAt () t.succ ∗ (∃ X : S1024x5120.Idx → Elt F .bf16, ⌜X = y0⌝ ∗ owns (c : Thread nD τ) (st0_0 t) fullShare X) ∗ (∃ X : S384x5120.Idx → Elt F .fp8e4m3, ⌜X = y1⌝ ∗ owns (c : Thread nD τ) (st0_1 t) fullShare X) ∗ (∃ X : S384x5120.Idx → Elt F .fp8e4m3, ⌜X = y2⌝ ∗ owns (c : Thread nD τ) (st0_2 t) fullShare X) ∗ (∃ X : S1x384.Idx → Elt F .f32, ⌜X = y3⌝ ∗ owns (c : Thread nD τ) (st0_3 t) fullShare X) ∗ (∃ X : S1x384.Idx → Elt F .f32, ⌜X = y4⌝ ∗ owns (c : Thread nD τ) (st0_4 t) fullShare X) ∗ (∃ X : S512x3456.Idx → Elt F .fp8e4m3, ⌜X = y5⌝ ∗ owns (c : Thread nD τ) (st0_5 t) fullShare X) ∗ (∃ X : S1x512.Idx → Elt F .f32, ⌜X = y6⌝ ∗ owns (c : Thread nD τ) (st0_6 t) fullShare X) ∗ (∃ X : S1024x512.Idx → Elt F .bf16, ⌜9 ≤ t.val → X = OUTt m c t⌝ ∗ owns (c : Thread nD τ) (st0_7 t) fullShare X) ∗ (∃ X : S1024x5120.Idx → Elt F .fp8e4m3, ⌜X = XCt m c⌝ ∗ owns (c : Thread nD τ) (st0_8 t) fullShare X) ∗ (∃ X : S1024x1.Idx → Elt F .f32, ⌜X = XSt m c⌝ ∗ owns (c : Thread nD τ) (st0_9 t) fullShare X) ∗ (∃ X : S1024x3456.Idx → Elt F .fp8e4m3, ⌜9 ≤ t.val → X = HCt m c⌝ ∗ owns (c : Thread nD τ) (st0_10 t) fullShare X) ∗ (∃ X : S1024x1.Idx → Elt F .f32, ⌜9 ≤ t.val → X = HSt m c⌝ ∗ owns (c : Thread nD τ) (st0_11 t) fullShare X))) := by
  have hN : t.val < 19 := lt_of_lt_of_eq t.isLt N_0
  rw [show (rdat m c).owesAt () t.succ = (rdat m c).owesAt () t.castSucc from rfl]
  subst h0 h1 h2 h3 h4 h5 h6
  unfold Inv bodyAt0
  iintro ⟨⟨%hb, %mb, %hg, HS0, HS1, Hp⟩, Ho, H0, H1, H2, H3, H4, H5, H6, H7, H8, H9, H10, H11⟩
  obtain ⟨hgh, hgm⟩ := hg
  by_cases hc2 : t.val < 9
  · by_cases hc1 : t.val = 0
    · obtain rfl : t = t0 := Fin.ext hc1
      iapply (sound_first (F := F) Variants.none c none Set.univ (grid0.coords t0)  _ _ _ _ _ _ _ _ _ _ _ _ _ _ _ _ _ _ _ _ _ _ _ _ _ _ _ _ ((c1_iff _).mpr rfl) ((c2_iff _).mpr hc2) (mt (c3_iff _).mp (by omega)) (mt (c4_iff _).mp (by omega)) _ _ _ _ _ _ _ _ _ _)
      isplitl [H0 H1 H2 H3 H4 H8 H9 HS0 HS1]
      · isplitl [H0]; · iexact H0
        isplitl [H1]; · iexact H1
        isplitl [H2]; · iexact H2
        isplitl [H3]; · iexact H3
        isplitl [H4]; · iexact H4
        isplitl [H8]; · iexact H8
        isplitl [H9]; · iexact H9
        isplitl [HS0]; · iexact HS0
        iexact HS1
      iintro ⟨H0, H1, H2, H3, H4, H8, H9, HS0, HS1⟩
      isplitl [HS0 HS1 Hp]
      · iexists _
        iexists _
        isplitr
        swap
        · isplitl [HS0]; · iexact HS0
          isplitl [HS1]; · iexact HS1
          iexact Hp
        ipureintro
        exact good_step m c t0 hc2 _ (k0_pay2) _ hgh rfl rfl
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun h => absurd h (by omega)
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun h => absurd h (by omega)
      iexists _; isplitr
      swap
      · iexact H11
      ipureintro; exact fun h => absurd h (by omega)

    · obtain rfl := h8 (by omega)
      obtain rfl := h9 (by omega)
      iapply (sound_gate (F := F) Variants.none c none Set.univ (grid0.coords t)  _ _ _ _ _ _ _ _ _ _ _ _ _ _ _ _ _ _ _ _ _ _ _ _ _ _ _ _ (mt (c1_iff _).mp hc1) ((c2_iff _).mpr hc2) (mt (c3_iff _).mp (by omega)) (mt (c4_iff _).mp (by omega)) _ _ _ _ _ _ _ _ _)
      isplitl [H1 H2 H3 H4 H8 H9 HS0 HS1]
      · isplitl [H1]; · iexact H1
        isplitl [H2]; · iexact H2
        isplitl [H3]; · iexact H3
        isplitl [H4]; · iexact H4
        isplitl [H8]; · iexact H8
        isplitl [H9]; · iexact H9
        isplitl [HS0]; · iexact HS0
        iexact HS1
      iintro ⟨H1, H2, H3, H4, H8, H9, HS0, HS1⟩
      isplitl [HS0 HS1 Hp]
      · iexists _
        iexists _
        isplitr
        swap
        · isplitl [HS0]; · iexact HS0
          isplitl [HS1]; · iexact HS1
          iexact Hp
        ipureintro
        exact good_step m c t hc2 _ mb _ hgh (hgm (by omega) (by omega)) rfl
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun h => absurd h (by omega)
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun h => absurd h (by omega)
      iexists _; isplitr
      swap
      · iexact H11
      ipureintro; exact fun h => absurd h (by omega)

  · obtain rfl := h8 (by omega)
    obtain rfl := h9 (by omega)
    by_cases hc3 : t.val = 9
    · obtain rfl : hb = HH m c := funext fun y => hgh y (by have : (y 0).val < 9 := (y 0).isLt; omega)
      obtain rfl : mb = MX m c 9 := by rw [hgm (by omega) (by omega), hc3]
      iapply (sound_turn (F := F) Variants.none c none Set.univ (grid0.coords t)  _ _ _ _ _ _ _ _ _ _ _ _ _ _ _ _ _ _ _ _ _ _ _ _ _ _ _ _ (mt (c1_iff _).mp (by omega)) (mt (c2_iff _).mp hc2) ((c3_iff _).mpr hc3) ((c4_iff _).mpr (by omega)) _ _ _ _ _ _ _ _)
      isplitl [H5 H6 H7 H10 H11 HS0 HS1]
      · isplitl [H5]; · iexact H5
        isplitl [H6]; · iexact H6
        isplitl [H7]; · iexact H7
        isplitl [H10]; · iexact H10
        isplitl [H11]; · iexact H11
        isplitl [HS0]; · iexact HS0
        iexact HS1
      iintro ⟨H5, H6, H7, H10, H11, HS0, HS1⟩
      isplitl [HS0 HS1 Hp]
      · iexists _
        iexists _
        isplitr
        swap
        · isplitl [HS0]; · iexact HS0
          isplitl [HS1]; · iexact HS1
          iexact Hp
        ipureintro
        exact ⟨fun y _ => rfl, fun _ h => absurd h (by omega)⟩
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun _ => rfl
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun _ => rfl
      iexists _; isplitr
      swap
      · iexact H11
      ipureintro; exact fun _ => rfl

    · obtain rfl := h10 (by omega)
      obtain rfl := h11 (by omega)
      iapply (sound_out (F := F) Variants.none c none Set.univ (grid0.coords t)  _ _ _ _ _ _ _ _ _ _ _ _ _ _ _ _ _ _ _ _ _ _ _ _ _ _ _ _ (mt (c1_iff _).mp (by omega)) (mt (c2_iff _).mp hc2) (mt (c3_iff _).mp hc3) ((c4_iff _).mpr (by omega)) _ _ _ _ _ _)
      isplitl [H5 H6 H7 H10 H11]
      · isplitl [H5]; · iexact H5
        isplitl [H6]; · iexact H6
        isplitl [H7]; · iexact H7
        isplitl [H10]; · iexact H10
        iexact H11
      iintro ⟨H5, H6, H7, H10, H11⟩
      isplitl [HS0 HS1 Hp]
      · iexists _
        iexists _
        isplitr
        swap
        · isplitl [HS0]; · iexact HS0
          isplitl [HS1]; · iexact HS1
          iexact Hp
        ipureintro
        exact ⟨fun y hy => hgh y (by have : (y 0).val < 9 := (y 0).isLt; omega), fun _ h => absurd h (by omega)⟩
      isplitl [Ho]; · iexact Ho
      isplitl [H0]
      · iexists _; isplitr
        swap
        · iexact H0
        ipureintro; rfl
      isplitl [H1]
      · iexists _; isplitr
        swap
        · iexact H1
        ipureintro; rfl
      isplitl [H2]
      · iexists _; isplitr
        swap
        · iexact H2
        ipureintro; rfl
      isplitl [H3]
      · iexists _; isplitr
        swap
        · iexact H3
        ipureintro; rfl
      isplitl [H4]
      · iexists _; isplitr
        swap
        · iexact H4
        ipureintro; rfl
      isplitl [H5]
      · iexists _; isplitr
        swap
        · iexact H5
        ipureintro; rfl
      isplitl [H6]
      · iexists _; isplitr
        swap
        · iexact H6
        ipureintro; rfl
      isplitl [H7]
      · iexists _; isplitr
        swap
        · iexact H7
        ipureintro; exact fun _ => rfl
      isplitl [H8]
      · iexists _; isplitr
        swap
        · iexact H8
        ipureintro; rfl
      isplitl [H9]
      · iexists _; isplitr
        swap
        · iexact H9
        ipureintro; rfl
      isplitl [H10]
      · iexists _; isplitr
        swap
        · iexact H10
        ipureintro; exact fun _ => rfl
      iexists _; isplitr
      swap
      · iexact H11
      ipureintro; exact fun _ => rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y hY => by
  rw [bigSep_W0, bigSep_W0, defs₀_row]
  have hb := sound_body m c t (Y 0) (Y 1) (Y 2) (Y 3) (Y 4) (Y 5) (Y 6) (Y 7) (Y 8) (Y 9) (Y 10) (Y 11) (finds_0 m c t _ (hY 0)) (finds_1 m c t _ (hY 1)) (finds_2 m c t _ (hY 2)) (finds_3 m c t _ (hY 3)) (finds_4 m c t _ (hY 4)) (finds_5 m c t _ (hY 5)) (finds_6 m c t _ (hY 6)) (fun h => finds_8 m c t h _ (hY 8)) (fun h => finds_9 m c t h _ (hY 9)) (fun h => finds_10 m c t h _ (hY 10)) (fun h => finds_11 m c t h _ (hY 11))
  refine triple_restated hb ?_ ?_ fun _ => ?_
  · rfl
  · exact .rfl
  · simp only [rafter_0, rafter_1, rafter_2, rafter_3, rafter_4, rafter_5, rafter_6, rafter_7, rafter_8, rafter_9, rafter_10, rafter_11]
    exact .rfl

end Cert.KernelIdeal.Gen

end
-- ==== Proof.KernelIdealRun.lean ====
module

public import proofs.«01_k».proof.Proof.KernelIdealData
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (RDat Cfg Window)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers and the generator register, at whatever the launch finds there, make the invariant before point 0. -/
theorem inv_in (c : Dev nD) : Pipeline.ΦA spec0 c ⊢ Inv m c 0 := by
  unfold Pipeline.ΦA Inv
  rw [scopedRest0_eq]
  iintro ⟨⟨⟨%h, H0⟩, ⟨%mx, H1⟩⟩, Hp⟩
  iexists h
  iexists mx
  isplitr
  swap
  · isplitl [H0]; · rw [owns_whole]; iexact H0
    isplitl [H1]; · rw [owns_whole]; iexact H1
    iexact Hp
  ipureintro
  exact ⟨fun y h => absurd h (by omega), fun h => absurd h (by omega)⟩

/-- The invariant gives the scratch buffers and the register back. -/
theorem inv_out (c : Dev nD) (n : ℕ) : Inv m c n ⊢ Pipeline.ΦA spec0 c := by
  unfold Pipeline.ΦA Inv
  rw [scopedRest0_eq]
  simp only [owns_whole]
  iintro ⟨%h, %mx, -, H0, H1, Hp⟩
  isplitl [H0 H1]
  · isplitl [H0]
    · iexists h; iexact H0
    · iexists mx; iexact H1
  · iexact Hp

set_option backward.isDefEq.respectTransparency.types false in
set_option maxHeartbeats 800000 in
/-- The whole module: it ends, with every array at what the proof data says of it and every semaphore at zero. -/
theorem run_main_quiescent : θ_run defs (onTc (τ := τ) (main (F := F))) (s₀ m ρ)
    (fun r => (RDat.FramePost cfg0 (rdat m) (V m)) r ∧ r.2.sem = fun _ => 0) := by
  exact Pipeline.RDat.θ_run_frame_track_shared (Q' := _) cfgs (0 : Fin 1) launch₀0 defs₀ Variants.none (rdat m) m ρ main
    (hbody := fun c => body_obligation m c)
    (hq := fun c w _ => rfl)
    (howed := fun c t => rfl)
    (V := V m)
    (hmain := hmain m Variants.none)
    (hA := fun c w => rA_eq m c w)
    (hin := fun c => inv_in m c)
    (hout := fun c => inv_out m c _)

/-- The frame claim: the kernel ends, its arguments are left as they were and its semaphores stand at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) := by
  refine (θ_run defs _ _).mono (fun r h => ⟨fun c => ?_, h.2⟩) (run_main_quiescent m ρ)
  have h1 := h.1
  refine ⟨?_, ?_, ?_, ?_, ?_⟩
  · exact ((h1 c).2 main_arg0 (Pipeline.mem_restRefs_of main_arg0 (by decide) (by decide))).trans (V_main_arg0 m c)
  · exact ((RDat.FramePost.arr_in h1 c 2 rfl).trans (rA_eq m c 2)).trans (V_main_arg1 m c)
  · exact ((h1 c).2 main_arg2 (Pipeline.mem_restRefs_of main_arg2 (by decide) (by decide))).trans (V_main_arg2 m c)
  · exact ((RDat.FramePost.arr_in h1 c 5 rfl).trans (rA_eq m c 5)).trans (V_main_arg3 m c)
  · exact ((h1 c).2 main_arg4 (Pipeline.mem_restRefs_of main_arg4 (by decide) (by decide))).trans (V_main_arg4 m c)

end Cert.KernelIdeal.Gen

end
-- ==== Proof.Exponent.lean ====
/- The quantiser's power-of-two scale, scalar by scalar: the kernel finds the exponent by comparing a row maximum with eight
   powers of two, the reference by a logarithm; over the extended reals the two agree. -/
module

public import Idealize.ShloMosaic.PureOps.Ideal
public import Idealize.ShloMosaic.PureOps.Ideal.Laws
public import Idealize.ShloMosaic.Lib.IdealHost

@[expose] public section

noncomputable section

namespace Cert.Quant

open Idealize.ShloMosaic

section Generic
variable {F : FTy → Type} [FloatOps F]

/-- One comparison of the kernel's search: the exponent field grows by `s` where `q` reaches the power of two of the grown field. -/
def stepUp (q : F .f32) (ef s : BitVec 32) : BitVec 32 :=
  Scalar.select (FloatOps.cmpf .oge q (FloatOps.ofBits .f32 (IntOp.shli .vector (IntOp.addi ef s) 23#32))) (IntOp.addi ef s) ef

/-- The first four comparisons of the kernel's search for the exponent field of `q`. -/
def field4 (q : F .f32) : BitVec 32 := stepUp q (stepUp q (stepUp q (stepUp q (0#32) 125#32) 64#32) 32#32) 16#32

/-- The exponent field of `q`, by all eight comparisons. -/
def field (q : F .f32) : BitVec 32 := stepUp q (stepUp q (stepUp q (stepUp q (field4 q) 8#32) 4#32) 2#32) 1#32

/-- The kernel's exponent of a row of maximum `a`, from the field. -/
def kexp (a : F .f32) : BitVec 32 :=
  Scalar.select (IntOp.ori (IntOp.cmpi .eq (field (FloatOps.mulf a (Scalar.ofBits .f32 0x3B124925#32))) 0#32)
    (FloatOps.cmpf .oeq a (Scalar.ofBits .f32 0x00000000#32))) 0#32
    (IntOp.subi (field (FloatOps.mulf a (Scalar.ofBits .f32 0x3B124925#32))) 126#32)

/-- The kernel's scale of a row of maximum `a`. -/
def kscale (a : F .f32) : F .f32 := FloatOps.ofBits .f32 (IntOp.shli .vector (IntOp.addi (kexp a) 127#32) 23#32)
/-- The kernel's inverse scale of a row of maximum `a`. -/
def kinv (a : F .f32) : F .f32 := FloatOps.ofBits .f32 (IntOp.shli .vector (IntOp.subi 127#32 (kexp a)) 23#32)

/-- The reference's exponent of a row of maximum `a`. -/
def rexp (a : F .f32) : F .f32 :=
  Scalar.select (FloatOps.cmpf .olt (FloatOps.mulf a (Scalar.ofBits .f32 0x3B124925#32)) (Scalar.ofBits .f32 0x00800000#32))
    (Scalar.ofBits .f32 0x00000000#32)
    (FloatOps.minimumf (FloatOps.addf (FloatOps.floor (FloatOps.divf (FloatOps.log (FloatOps.mulf a (Scalar.ofBits .f32 0x3B124925#32)))
      (FloatOps.log (Scalar.ofBits .f32 0x40000000#32)))) (Scalar.ofBits .f32 0x3F800000#32)) (Scalar.ofBits .f32 0x42FC0000#32))

/-- The reference's scale of a row of maximum `a`. -/
def rscale (a : F .f32) : F .f32 := FloatOps.exp2 (rexp a)
/-- The reference's inverse scale of a row of maximum `a`. -/
def rinv (a : F .f32) : F .f32 := FloatOps.exp2 (FloatOps.subf (Scalar.ofBits .f32 0x00000000#32) (rexp a))

end Generic

/-- The power of two whose exponent field is `n`. -/
def T (n : ℕ) : EReal := (((2 : ℝ) ^ ((n : ℤ) - 127) : ℝ) : EReal)

/-- The thresholds grow with the field. -/
theorem T_le {n n' : ℕ} (h : n ≤ n') : T n ≤ T n' := by
  unfold T
  rw [EReal.coe_le_coe_iff]
  exact zpow_le_zpow_right₀ (by norm_num) (by omega)

/-- Every threshold is positive. -/
theorem T_pos (n : ℕ) : 0 < T n := by
  unfold T
  rw [EReal.coe_pos]
  positivity

/-- The fields of the pattern of a power of two. -/
theorem bits_T : ∀ n : Fin 255, (BitVec.ofNat 32 n.val <<< 23).extractLsb' (8 + 23) 1 = 0#1
    ∧ ((BitVec.ofNat 32 n.val <<< 23).extractLsb' 23 8).toNat = n.val ∧ ((BitVec.ofNat 32 n.val <<< 23).extractLsb' 0 23).toNat = 0 := by
  decide +kernel

/-- The pattern of exponent field `n` denotes `T n`. -/
theorem ofBits_T (n : ℕ) (h1 : 1 ≤ n) (h2 : n < 255) : Ideal.ofBits .f32 (IntOp.shli .vector (BitVec.ofNat 32 n) 23#32) = T n := by
  obtain ⟨hs, he, hf⟩ := bits_T ⟨n, h2⟩
  simp only at hs he hf
  have hsh : IntOp.shli .vector (BitVec.ofNat 32 n) 23#32 = BitVec.ofNat 32 n <<< 23 := by
    unfold IntOp.shli
    rw [if_pos (by decide)]
    rfl
  rw [hsh]
  show Ideal.ieee 8 23 (BitVec.ofNat 32 n <<< 23) = T n
  unfold Ideal.ieee T
  simp only [hs, he, hf]
  rw [if_neg (by omega), if_neg (by omega)]
  refine congrArg Real.toEReal ?_
  have : ((0#1 == 1#1) : Bool) = false := by decide
  rw [this]
  have h23 : ((2 ^ 23 + 0 : ℕ) : ℝ) = (2 : ℝ) ^ (23 : ℤ) := by norm_num
  rw [h23, if_neg (by decide), one_mul, ← zpow_add₀ (by norm_num : (2 : ℝ) ≠ 0)]
  refine congrArg (fun k : ℤ => (2 : ℝ) ^ k) ?_
  norm_num

/-- Adding integers below the word size is adding their numbers. -/
theorem addi_ofNat (a b : ℕ) : IntOp.addi (BitVec.ofNat 32 a) (BitVec.ofNat 32 b) = BitVec.ofNat 32 (a + b) := by
  unfold IntOp.addi
  rw [BitVec.ofNat_add]

/-- Subtracting a smaller integer is subtracting the numbers. -/
theorem subi_ofNat (a b : ℕ) (h : b ≤ a) : IntOp.subi (BitVec.ofNat 32 a) (BitVec.ofNat 32 b) = BitVec.ofNat 32 (a - b) := by
  unfold IntOp.subi
  obtain ⟨k, rfl⟩ := Nat.exists_eq_add_of_le h
  rw [Nat.add_sub_cancel_left, BitVec.ofNat_add, BitVec.add_comm, BitVec.add_sub_cancel]

/-- A field `n` found so far, with `R` still to be added at most: `q` reaches the power of field `n` and stays below that of field `n + R + 1`, unless the search's cap is in reach. -/
def Found (q : EReal) (n R : ℕ) : Prop := n + R ≤ 252 ∧ (n = 0 ∨ T n ≤ q) ∧ (q < T (n + R + 1) ∨ n + R = 252)

/-- One comparison keeps `Found`, with the step taken off what is still to come. -/
theorem stepUp_found (q : EReal) (n R s : ℕ) (h : Found q n R) (hs : 1 ≤ s) (hsR : s ≤ R) (hR : s ≤ R - s + 1) :
    ∃ n', stepUp (F := Ideal) q (BitVec.ofNat 32 n) (BitVec.ofNat 32 s) = BitVec.ofNat 32 n' ∧ Found q n' (R - s) := by
  obtain ⟨h0, h1, h2⟩ := h
  unfold stepUp
  rw [addi_ofNat]
  have hb : FloatOps.ofBits (F := Ideal) .f32 (IntOp.shli .vector (BitVec.ofNat 32 (n + s)) 23#32) = T (n + s) := ofBits_T (n + s) (by omega) (by omega)
  rw [hb]
  have hc : FloatOps.cmpf (F := Ideal) (φ := .f32) .oge q (T (n + s)) = BitVec.ofBool (decide (T (n + s) ≤ q)) := rfl
  rw [hc]
  by_cases hq : T (n + s) ≤ q
  · refine ⟨n + s, ?_, ?_⟩
    · rw [decide_eq_true hq]; rfl
    · refine ⟨by omega, .inr hq, ?_⟩
      rw [show n + s + (R - s) = n + R by omega]
      exact h2
  · refine ⟨n, ?_, ?_⟩
    · rw [decide_eq_false hq]; rfl
    · refine ⟨by omega, h1, .inl (lt_of_lt_of_le (not_le.mp hq) (T_le (by omega)))⟩

/-- The whole search: the field `n ≤ 252` with `q` between its power and the next, or at the cap. -/
theorem field_found (q : EReal) : ∃ n, field (F := Ideal) q = BitVec.ofNat 32 n ∧ Found q n 0 := by
  have h0 : Found q 0 252 := ⟨by omega, .inl rfl, .inr rfl⟩
  obtain ⟨n1, e1, h1⟩ := stepUp_found q 0 252 125 h0 (by omega) (by omega) (by omega)
  obtain ⟨n2, e2, h2⟩ := stepUp_found q n1 127 64 h1 (by omega) (by omega) (by omega)
  obtain ⟨n3, e3, h3⟩ := stepUp_found q n2 63 32 h2 (by omega) (by omega) (by omega)
  obtain ⟨n4, e4, h4⟩ := stepUp_found q n3 31 16 h3 (by omega) (by omega) (by omega)
  obtain ⟨n5, e5, h5⟩ := stepUp_found q n4 15 8 h4 (by omega) (by omega) (by omega)
  obtain ⟨n6, e6, h6⟩ := stepUp_found q n5 7 4 h5 (by omega) (by omega) (by omega)
  obtain ⟨n7, e7, h7⟩ := stepUp_found q n6 3 2 h6 (by omega) (by omega) (by omega)
  obtain ⟨n8, e8, h8⟩ := stepUp_found q n7 1 1 h7 (by omega) (by omega) (by omega)
  refine ⟨n8, ?_, h8⟩
  unfold field field4
  rw [e1, e2, e3, e4, e5, e6, e7, e8]

/-- The logarithm's exponent at a value between the powers of fields `n` and `n + 1`. -/
theorem floor_log (q : EReal) (n : ℕ) (h1 : T n ≤ q) (h2 : q < T (n + 1)) :
    Ideal.liftRound Int.floor (Ideal.div (Ideal.log q) (Ideal.log (2 : ℝ))) = (((n : ℤ) - 127 : ℤ) : ℝ) := by
  induction q using EReal.rec with
  | bot => exact absurd h1 (not_le.mpr (lt_of_le_of_lt bot_le (lt_of_le_of_ne bot_le (by unfold T; exact (EReal.coe_ne_bot _).symm))))
  | top => exact absurd h2 (not_lt.mpr le_top)
  | coe r =>
    unfold T at h1 h2
    rw [EReal.coe_le_coe_iff] at h1
    rw [EReal.coe_lt_coe_iff] at h2
    have hr : 0 < r := lt_of_lt_of_le (by positivity) h1
    have hl2 : 0 < Real.log 2 := Real.log_pos (by norm_num)
    have e1 : Ideal.log (r : EReal) = (Real.log r : EReal) := by
      show (if r ≤ 0 then (⊥ : EReal) else (Real.log r : EReal)) = _
      rw [if_neg (not_le.mpr hr)]
    have e2 : Ideal.log ((2 : ℝ) : EReal) = (Real.log 2 : EReal) := by
      show (if (2 : ℝ) ≤ 0 then (⊥ : EReal) else (Real.log 2 : EReal)) = _
      rw [if_neg (by norm_num)]
    have e3 : Ideal.div (Real.log r : EReal) (Real.log 2 : EReal) = ((Real.log r / Real.log 2 : ℝ) : EReal) := by
      unfold Ideal.div
      rw [if_neg (by rw [EReal.coe_eq_zero]; exact hl2.ne'), ← EReal.coe_inv, ← EReal.coe_mul, div_eq_mul_inv]
    rw [e1, e2, e3]
    show ((⌊Real.log r / Real.log 2⌋ : ℝ) : EReal) = _
    have hf : ⌊Real.log r / Real.log 2⌋ = (n : ℤ) - 127 := by
      rw [Int.floor_eq_iff]
      constructor
      · rw [le_div_iff₀ hl2]
        have := Real.log_le_log (by positivity) h1
        rw [Real.log_zpow] at this
        exact_mod_cast this
      · rw [div_lt_iff₀ hl2]
        have := Real.log_lt_log hr h2
        rw [Real.log_zpow] at this
        push_cast at this ⊢
        linarith
    rw [hf]

/-- At the search's cap the logarithm's exponent, cut at 126, is 126. -/
theorem min_cap (q : EReal) (h1 : T 252 ≤ q) :
    min (Ideal.liftRound Int.floor (Ideal.div (Ideal.log q) (Ideal.log (2 : ℝ))) + 1) ((126 : ℝ) : EReal) = ((126 : ℝ) : EReal) := by
  apply min_eq_right
  have hl2 : 0 < Real.log 2 := Real.log_pos (by norm_num)
  have e2 : Ideal.log ((2 : ℝ) : EReal) = (Real.log 2 : EReal) := by
    show (if (2 : ℝ) ≤ 0 then (⊥ : EReal) else (Real.log 2 : EReal)) = _
    rw [if_neg (by norm_num)]
  rw [e2]
  unfold Ideal.div
  rw [if_neg (by rw [EReal.coe_eq_zero]; exact hl2.ne'), ← EReal.coe_inv]
  induction q using EReal.rec with
  | bot => exact absurd h1 (not_le.mpr (lt_of_le_of_ne bot_le (by unfold T; exact (EReal.coe_ne_bot _).symm)))
  | top =>
    have : Ideal.log ⊤ = ⊤ := rfl
    rw [this, EReal.top_mul_coe_of_pos (inv_pos.mpr hl2)]
    have : Ideal.liftRound Int.floor ⊤ = ⊤ := rfl
    rw [this]
    exact le_of_le_of_eq le_top (EReal.top_add_of_ne_bot (by decide)).symm
  | coe r =>
    unfold T at h1
    rw [EReal.coe_le_coe_iff] at h1
    have hr : 0 < r := lt_of_lt_of_le (by positivity) h1
    have e1 : Ideal.log (r : EReal) = (Real.log r : EReal) := by
      show (if r ≤ 0 then (⊥ : EReal) else (Real.log r : EReal)) = _
      rw [if_neg (not_le.mpr hr)]
    rw [e1, ← EReal.coe_mul, ← div_eq_mul_inv]
    show ((126 : ℝ) : EReal) ≤ ((⌊Real.log r / Real.log 2⌋ : ℝ) : EReal) + ((1 : ℝ) : EReal)
    rw [← EReal.coe_add, EReal.coe_le_coe_iff]
    have hf : (125 : ℤ) ≤ ⌊Real.log r / Real.log 2⌋ := by
      rw [Int.le_floor, le_div_iff₀ hl2]
      have := Real.log_le_log (by positivity) h1
      rw [Real.log_zpow] at this
      push_cast at this ⊢
      linarith
    have hf' : (125 : ℝ) ≤ (⌊Real.log r / Real.log 2⌋ : ℝ) := by exact_mod_cast hf
    linarith

/-- The bits of the smallest normal number are the threshold of field 1. -/
theorem bits_min : Ideal.ofBits .f32 0x00800000#32 = T 1 := ofBits_T 1 (by omega) (by omega)
/-- The bits of two. -/
theorem bits_two : Ideal.ofBits .f32 0x40000000#32 = ((2 : ℝ) : EReal) := by
  rw [show Ideal.ofBits .f32 0x40000000#32 = T 128 from ofBits_T 128 (by omega) (by omega)]
  unfold T
  norm_num
/-- The bits of 126. -/
theorem bits_126 : Ideal.ofBits .f32 0x42FC0000#32 = ((126 : ℝ) : EReal) := by
  simp [Ideal.ofBits, Ideal.ieee, -EReal.coe_mul]; norm_num

/-- The quotient of a row maximum the two searches read. -/
abbrev quot (a : EReal) : EReal := a * Ideal.ofBits .f32 0x3B124925#32

/-- The two exponents of a row maximum: nought for both, or the field less 126 for both. -/
theorem exponents (a : EReal) : (kexp (F := Ideal) a = 0#32 ∧ rexp (F := Ideal) a = (0 : ℝ)) ∨
    ∃ n : ℕ, 1 ≤ n ∧ n ≤ 252 ∧ kexp (F := Ideal) a = BitVec.ofNat 32 n - 126#32 ∧ rexp (F := Ideal) a = (((n : ℤ) - 126 : ℤ) : ℝ) := by
  obtain ⟨n, hn, hle, h1, h2⟩ := field_found (quot a)
  have hk : kexp (F := Ideal) a = Scalar.select (IntOp.ori (IntOp.cmpi .eq (BitVec.ofNat 32 n) 0#32) (BitVec.ofBool (decide (a = Ideal.ofBits .f32 0#32)))) 0#32
      (IntOp.subi (BitVec.ofNat 32 n) 126#32) := by
    rw [← hn]; rfl
  have hr : rexp (F := Ideal) a = Scalar.select (BitVec.ofBool (decide (quot a < Ideal.ofBits .f32 0x00800000#32))) (Ideal.ofBits .f32 0x00000000#32)
      (min (Ideal.liftRound Int.floor (Ideal.div (Ideal.log (quot a)) (Ideal.log (Ideal.ofBits .f32 0x40000000#32))) + Ideal.ofBits .f32 0x3F800000#32)
        (Ideal.ofBits .f32 0x42FC0000#32)) := rfl
  rw [bits_min, bits_two, bits_126, Ideal.ofBits_one_f32, Ideal.ofBits_zero_f32] at hr
  rw [Ideal.ofBits_zero_f32] at hk
  rcases Nat.eq_zero_or_pos n with h0 | h0
  · subst h0
    left
    have hlt : quot a < T 1 := by
      rcases h2 with h | h
      · exact h
      · omega
    constructor
    · rw [hk]
      rcases Classical.em (a = 0) with h | h
      · rw [decide_eq_true h]; rfl
      · rw [decide_eq_false h]; rfl
    · rw [hr, decide_eq_true hlt]; rfl
  · right
    have h1' : T n ≤ quot a := by
      rcases h1 with h | h
      · omega
      · exact h
    have ha : a ≠ 0 := by
      rintro rfl
      rw [quot, zero_mul] at h1'
      exact absurd h1' (not_le.mpr (T_pos n))
    have hlt : ¬ quot a < T 1 := not_lt.mpr (le_trans (T_le h0) h1')
    refine ⟨n, h0, by omega, ?_, ?_⟩
    · rw [hk, decide_eq_false ha]
      have : IntOp.cmpi .eq (BitVec.ofNat 32 n) 0#32 = 0#1 := by
        show BitVec.ofBool (BitVec.ofNat 32 n == 0#32) = 0#1
        have : (BitVec.ofNat 32 n == 0#32) = false := by
          rw [beq_eq_false_iff_ne]
          intro h
          have := congrArg BitVec.toNat h
          rw [BitVec.toNat_ofNat, BitVec.toNat_ofNat, Nat.mod_eq_of_lt (by omega)] at this
          omega
        rw [this]; rfl
      rw [this]; rfl
    · rw [hr, decide_eq_false hlt]
      show min _ _ = _
      rcases h2 with h | h
      · rw [floor_log _ n h1' h]
        have : (1 : EReal) = ((1 : ℝ) : EReal) := rfl
        rw [this, ← EReal.coe_add, min_eq_left]
        · refine congrArg Real.toEReal ?_
          push_cast; ring
        · rw [EReal.coe_le_coe_iff]
          have : ((n : ℕ) : ℝ) ≤ 252 := by exact_mod_cast (by omega : n ≤ 252)
          push_cast; linarith
      · have hn2 : n = 252 := by omega
        subst hn2
        rw [min_cap _ h1']
        refine congrArg Real.toEReal ?_
        norm_num

/-- `exp2` at an integer is the power of two. -/
theorem exp2_int (k : ℤ) : Ideal.exp2 (((k : ℤ) : ℝ) : EReal) = (((2 : ℝ) ^ k : ℝ) : EReal) := by
  show ((Real.rpow 2 (k : ℝ) : ℝ) : EReal) = _
  exact congrArg Real.toEReal (Real.rpow_intCast 2 k)

/-- The kernel's scale of a row maximum is the reference's. -/
theorem kscale_eq (a : EReal) : kscale (F := Ideal) a = rscale (F := Ideal) a := by
  show Ideal.ofBits .f32 (IntOp.shli .vector (IntOp.addi (kexp (F := Ideal) a) 127#32) 23#32) = Ideal.exp2 (rexp (F := Ideal) a)
  rcases exponents a with ⟨hk, hr⟩ | ⟨n, h1, h2, hk, hr⟩
  · rw [hk, hr]
    rw [show IntOp.addi 0#32 127#32 = BitVec.ofNat 32 127 from rfl, ofBits_T 127 (by omega) (by omega)]
    have := exp2_int 0
    rw [Int.cast_zero] at this
    rw [this]
    rfl
  · rw [hk, hr, exp2_int]
    have : IntOp.addi (BitVec.ofNat 32 n - 126#32) 127#32 = BitVec.ofNat 32 (n + 1) := by
      unfold IntOp.addi
      apply BitVec.eq_of_toNat_eq
      simp only [BitVec.toNat_add, BitVec.toNat_sub, BitVec.toNat_ofNat]
      omega
    rw [this, ofBits_T (n + 1) (by omega) (by omega)]
    unfold T
    refine congrArg Real.toEReal (congrArg (fun k : ℤ => (2 : ℝ) ^ k) ?_)
    push_cast; ring

/-- The kernel's inverse scale of a row maximum is the reference's. -/
theorem kinv_eq (a : EReal) : kinv (F := Ideal) a = rinv (F := Ideal) a := by
  show Ideal.ofBits .f32 (IntOp.shli .vector (IntOp.subi 127#32 (kexp (F := Ideal) a)) 23#32) = Ideal.exp2 (Ideal.ofBits .f32 0x00000000#32 - rexp (F := Ideal) a)
  rw [Ideal.ofBits_zero_f32]
  rcases exponents a with ⟨hk, hr⟩ | ⟨n, h1, h2, hk, hr⟩
  · rw [hk, hr]
    rw [show IntOp.subi 127#32 0#32 = BitVec.ofNat 32 127 from rfl, ofBits_T 127 (by omega) (by omega)]
    have := exp2_int 0
    rw [Int.cast_zero] at this
    rw [EReal.coe_zero, sub_zero, ← EReal.coe_zero, this]
    rfl
  · rw [hk, hr]
    have hz : (0 : EReal) - (((((n : ℤ) - 126 : ℤ) : ℝ)) : EReal) = ((((126 - n : ℤ)) : ℝ) : EReal) := by
      rw [show (0 : EReal) = ((0 : ℝ) : EReal) from rfl, ← EReal.coe_sub]
      refine congrArg Real.toEReal ?_
      push_cast; ring
    rw [hz, exp2_int]
    have : IntOp.subi 127#32 (BitVec.ofNat 32 n - 126#32) = BitVec.ofNat 32 (253 - n) := by
      unfold IntOp.subi
      apply BitVec.eq_of_toNat_eq
      simp only [BitVec.toNat_sub, BitVec.toNat_ofNat]
      omega
    rw [this, ofBits_T (253 - n) (by omega) (by omega)]
    unfold T
    refine congrArg Real.toEReal (congrArg (fun k : ℤ => (2 : ℝ) ^ k) ?_)
    push_cast [Nat.cast_sub (show n ≤ 253 by omega)]; ring

end Cert.Quant

end
-- ==== Proof.Rows.lean ====
/- The quantiser over the extended reals, row by row: the clipped code of an entry, and the mathematics both programs compute. -/
module

public import proofs.«01_k».proof.Proof.Exponent

@[expose] public section

noncomputable section

namespace Cert.Quant

open Idealize.ShloMosaic

/-- The code of an entry `x` under the inverse scale `s`: the product clipped to the format's range. -/
def clip (x s : EReal) : EReal := min (Ideal.ofBits .f32 0x43E00000#32) (max (Ideal.ofBits .f32 0xC3E00000#32) (x * s))

/-- The largest absolute value of a row. -/
def amax {n : ℕ} (r : Fin n → EReal) : EReal := Finset.univ.fold max ⊥ fun k => max (r k) (-(r k))

/-- The code of entry `k` of a row, over the row's own scale. -/
def code {n : ℕ} (r : Fin n → EReal) (k : Fin n) : EReal := clip (r k) (rinv (F := Ideal) (amax r))

/-- The scale of a row. -/
def scale {n : ℕ} (r : Fin n → EReal) : EReal := rscale (F := Ideal) (amax r)

/-- A row's codes against one row of weights, with the row's scale and the weights' scale put back. -/
def proj {n : ℕ} (r w : Fin n → EReal) (s : EReal) : EReal := (∑ k, code r k * w k) * scale r * s

/-- The gated product of the two projections. -/
def hid (g u : EReal) : EReal := g * Ideal.logistic g * u

/-- The hidden rows of the whole computation: tokens `x`, fused weights `w` with scales `s`. -/
def hidden (x : Fin 1024 → Fin 5120 → EReal) (w : Fin 6912 → Fin 5120 → EReal) (s : Fin 6912 → EReal) (i : Fin 1024) (k : Fin 3456) : EReal :=
  hid (proj (x i) (w ⟨k.val, by omega⟩) (s ⟨k.val, by omega⟩)) (proj (x i) (w ⟨3456 + k.val, by omega⟩) (s ⟨3456 + k.val, by omega⟩))

/-- The f32 bits of minus infinity are the least extended real. -/
theorem bits_ninf32 : Ideal.ofBits .f32 0xFF800000#32 = ⊥ := by simp [Ideal.ofBits, Ideal.ieee]
/-- The bf16 bits of minus infinity are the least extended real. -/
theorem bits_ninf16 : Ideal.ofBits .bf16 0xFF80#16 = ⊥ := by simp [Ideal.ofBits, Ideal.ieee]

end Cert.Quant

end
-- ==== Proof.KerRows.lean ====
/- What one trip or tile of the kernel computes over the extended reals: the quantised rows, a gated tile, an output tile. -/
module

public import proofs.«01_k».proof.Proof.Rows
public import proofs.«01_k».proof.Proof.KernelIdealBody
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Quant

section Generic
variable {F : FTy → Type} [FloatOps F]

/-- A vector clipped to the format's range after a product with a column, in bf16. -/
def clip1 (x : FVec F S64x5120 .bf16) (s : FVec F S64x1 .f32) : FVec F S64x5120 .fp8e4m3 :=
  k0_pay1 (mulf (shapeCast S64x5120 x shapeCasts_S64x5120_S64x5120) (broadcastTo S64x5120 (truncf .bf16 s bitsLt_bf16_f32) broadcasts_S64x1_S64x5120)) (Scalar.ofBits .f32 0xC3E00000#32)

/-- The first loop's half-searched field is the scalar search, entry by entry. -/
theorem pay10_gen (v : Vec F S64x5120 .bf16) : k0_pay10 v = fun y => field4 (k0_pay9 v y) := rfl
/-- The first loop's exponent is the scalar exponent, entry by entry. -/
theorem pay13_gen (v : Vec F S64x5120 .bf16) : k0_pay13 (k0_pay8 v) (k0_pay9 v) (k0_pay10 v) (k0_pay11 v) (k0_pay12 v) = fun y => kexp (k0_pay8 v y) := rfl
/-- The first loop's scales are the scalar scale, entry by entry. -/
theorem rowXS_gen (v : Vec F S64x5120 .bf16) : rowXS v = fun y => kscale (k0_pay8 v y) := rfl
/-- The first loop's codes are the clipped products with the scalar inverse scale. -/
theorem rowXC_gen (v : Vec F S64x5120 .bf16) : rowXC v = clip1 v (fun y => kinv (k0_pay8 v y)) := rfl
/-- The second loop's scales are the scalar scale, entry by entry. -/
theorem rowHS_gen (v : Vec F S64x128 .f32) : rowHS v = fun y => kscale (k0_pay19 v y) := rfl
/-- The second loop's inverse scales are the scalar inverse scale, entry by entry. -/
theorem rowHI_gen (v : Vec F S64x128 .f32) : rowHI v = fun y => kinv (k0_pay19 v y) := rfl

/-- A projection tile over codes and scales. -/
def projT (xs : Vec F S1024x1 .f32) (xc : Vec F S1024x5120 .fp8e4m3) (w : Vec F S384x5120 .fp8e4m3) (s : Vec F S1x384 .f32) : FVec F S1024x384 .f32 :=
  mulf (mulf (matmul dot_S1024x5120_S384x5120_S1024x384_1_1_0_0_n_n none (shapeCast S1024x5120 xc shapeCasts_S1024x5120_S1024x5120) w (constant S1024x384 .f32 0x00000000#32))
    (broadcastTo S1024x384 (shapeCast S1024x1 xs shapeCasts_S1024x1_S1024x1) broadcasts_S1024x1_S1024x384))
    (broadcastTo S1024x384 (shapeCast S1x384 s shapeCasts_S1x384_S1x384) broadcasts_S1x384_S1024x384)

/-- The gated product of two tiles. -/
def gateT (g u : FVec F S1024x384 .f32) : FVec F S1024x384 .f32 :=
  mulf (mulf g (divf (broadcast S1024x384 (Scalar.ofBits .f32 0x3F800000#32))
    (addf (broadcast S1024x384 (Scalar.ofBits .f32 0x3F800000#32)) (exp (subf (broadcast S1024x384 (Scalar.ofBits .f32 0x00000000#32)) g))))) u

/-- A point's gated tile is the gated product of its two projection tiles. -/
theorem pay16_gen (xs : Vec F S1024x1 .f32) (xc : Vec F S1024x5120 .fp8e4m3) (wg : Vec F S384x5120 .fp8e4m3) (sg : Vec F S1x384 .f32) (wu : Vec F S384x5120 .fp8e4m3) (su : Vec F S1x384 .f32) :
    k0_pay16 xs xc wg sg xc wu su = gateT (projT xs xc wg sg) (projT xs xc wu su) := rfl
/-- The tile of absolute values is that of the gated tile. -/
theorem pay18_gen (xs : Vec F S1024x1 .f32) (xc : Vec F S1024x5120 .fp8e4m3) (wg : Vec F S384x5120 .fp8e4m3) (sg : Vec F S1x384 .f32) (wu : Vec F S384x5120 .fp8e4m3) (su : Vec F S1x384 .f32) :
    k0_pay18 xs xc wg sg xc wu su = absf (k0_pay16 xs xc wg sg xc wu su) := rfl

end Generic

/-- An entry clipped to the format's range. -/
theorem pay1_at (x : FVec Ideal S64x5120 .bf16) (i : Fin 64) (k : Fin 5120) :
    k0_pay1 x (Scalar.ofBits .f32 0xC3E00000#32) (ix2 i k) = min (Ideal.ofBits .f32 0x43E00000#32) (max (Ideal.ofBits .f32 0xC3E00000#32) (x (ix2 i k))) := by
  pointwise [k0_pay1]
/-- An entry of the clipped vector is the entry's clipped product with its row's column value. -/
theorem clip1_at (x : FVec Ideal S64x5120 .bf16) (s : FVec Ideal S64x1 .f32) (i : Fin 64) (k : Fin 5120) :
    clip1 x s (ix2 i k) = clip (x (ix2 i k)) (s (ix2 i 0)) := by
  unfold clip1
  rw [pay1_at]
  pointwise
  rfl
/-- The first loop's row maximum is the largest absolute value of the row. -/
theorem pay8_at (v : Vec Ideal S64x5120 .bf16) (i : Fin 64) : k0_pay8 v (ix2 i 0) = amax fun k : Fin 5120 => v (ix2 i k) := by
  pointwise [k0_pay8, k0_pay7]
  rw [bits_ninf16]
  rfl
/-- The second loop's row maximum is the maximum over the lanes. -/
theorem pay19_at (v : Vec Ideal S64x128 .f32) (i : Fin 64) : k0_pay19 v (ix2 i 0) = Finset.univ.fold max ⊥ fun k : Fin 128 => v (ix2 i k) := by
  pointwise [k0_pay19]
  rw [bits_ninf32]
/-- A code that the second loop stores is the entry's clipped product with the inverse scale. -/
theorem rowHC_at (s : FVec Ideal S64x1 .f32) (h : Vec Ideal S1x64x384 .f32) (i : Fin 64) (k : Fin 384) :
    rowHC s h (ix2 i k) = clip (h (ix3 0 i k)) (s (ix2 i 0)) := by
  pointwise [rowHC, k0_pay25]
  rfl
/-- The codes one trip of the first loop stores are the codes of its rows. -/
theorem rowXC_at (v : Vec Ideal S64x5120 .bf16) (i : Fin 64) (k : Fin 5120) : rowXC v (ix2 i k) = code (fun k : Fin 5120 => v (ix2 i k)) k := by
  rw [rowXC_gen, clip1_at]
  show clip _ (kinv (F := Ideal) (k0_pay8 v (ix2 i 0))) = _
  rw [pay8_at, kinv_eq]
  rfl
/-- The scales one trip of the first loop stores are the scales of its rows. -/
theorem rowXS_at (v : Vec Ideal S64x5120 .bf16) (i : Fin 64) : rowXS v (ix2 i 0) = scale (fun k : Fin 5120 => v (ix2 i k)) := by
  rw [rowXS_gen]
  show kscale (F := Ideal) (k0_pay8 v (ix2 i 0)) = _
  rw [pay8_at, kscale_eq]
  rfl
/-- The second loop's scale is the reference's scale of the lanes' maximum. -/
theorem rowHS_at (v : Vec Ideal S64x128 .f32) (i : Fin 64) : rowHS v (ix2 i 0) = rscale (F := Ideal) (Finset.univ.fold max ⊥ fun k : Fin 128 => v (ix2 i k)) := by
  rw [rowHS_gen]
  show kscale (F := Ideal) (k0_pay19 v (ix2 i 0)) = _
  rw [pay19_at, kscale_eq]
/-- The second loop's inverse scale is the reference's of the lanes' maximum. -/
theorem rowHI_at (v : Vec Ideal S64x128 .f32) (i : Fin 64) : rowHI v (ix2 i 0) = rinv (F := Ideal) (Finset.univ.fold max ⊥ fun k : Fin 128 => v (ix2 i k)) := by
  rw [rowHI_gen]
  show kinv (F := Ideal) (k0_pay19 v (ix2 i 0)) = _
  rw [pay19_at, kinv_eq]

/-- An entry of a projection tile: a sum of products, times the row's scale, times the weights' scale. -/
theorem projT_at (xs : Vec Ideal S1024x1 .f32) (xc : Vec Ideal S1024x5120 .fp8e4m3) (w : Vec Ideal S384x5120 .fp8e4m3) (s : Vec Ideal S1x384 .f32) (i : Fin 1024) (l : Fin 384) :
    projT xs xc w s (ix2 i l) = (∑ k : Fin 5120, xc (ix2 i k) * w (ix2 l k)) * xs (ix2 i 0) * s (ix2 0 l) := by
  pointwise [projT]
/-- An entry of the gated product of two tiles. -/
theorem gateT_at (g u : FVec Ideal S1024x384 .f32) (i : Fin 1024) (l : Fin 384) : gateT g u (ix2 i l) = hid (g (ix2 i l)) (u (ix2 i l)) := by
  pointwise [gateT]
  unfold hid Ideal.logistic
  rw [zero_sub]
/-- A tile laid out as a plane keeps its entries. -/
theorem pay17_at (h : FVec Ideal S1024x384 .f32) (i : Fin 1024) (l : Fin 384) : shapeCast S1x1024x384 h shapeCasts_S1024x384_S1x1024x384 (ix3 0 i l) = h (ix2 i l) := by
  pointwise
/-- A lane of the running maximum after a tile: the old lane against the tile's three absolute values in it. -/
theorem pay3_at (a : FVec Ideal S1024x384 .f32) (mx : Vec Ideal S1024x128 .f32) (i : Fin 1024) (l : Fin 128) :
    k0_pay3 (absf a) mx (ix2 i l) = max (max (max (mx (ix2 i l)) (FloatOps.absf (F := Ideal) (φ := .f32) (a (ix2 i ⟨l.val, by omega⟩)))) (FloatOps.absf (F := Ideal) (φ := .f32) (a (ix2 i ⟨128 + l.val, by omega⟩)))) (FloatOps.absf (F := Ideal) (φ := .f32) (a (ix2 i ⟨256 + l.val, by omega⟩))) := by
  pointwise [k0_pay3]
/-- An entry of an output tile: a sum of products, times the row's scale, times the weights' scale. -/
theorem pay6_at (hc : Vec Ideal S1024x3456 .fp8e4m3) (w : Vec Ideal S512x3456 .fp8e4m3) (hs : Vec Ideal S1024x1 .f32) (s : Vec Ideal S1x512 .f32) (i : Fin 1024) (l : Fin 512) :
    k0_pay6 hc w hs s (ix2 i l) = (∑ k : Fin 3456, hc (ix2 i k) * w (ix2 l k)) * hs (ix2 i 0) * s (ix2 0 l) := by
  pointwise [k0_pay6]
/-- The running maximum starts at nought. -/
theorem pay2_at (i : Fin 1024) (l : Fin 128) : k0_pay2 (F := Ideal) (ix2 i l) = 0 := by
  pointwise [k0_pay2]

end Cert.KernelIdeal.Gen

end
-- ==== Proof.KerValue.lean ====
/- What the kernel's five result arrays hold after the run, over the extended reals. -/
module

public import proofs.«01_k».proof.Proof.KerRows
public import proofs.«01_k».proof.Proof.KernelIdealRun
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.ShloMosaic.Pipeline (RDat Cfg Window)
open Cert.Quant

/-! ## The loops' results, row by row -/

/-- Row `i` of 1024 is row `i % 64` of slice `i / 64`. -/
theorem rows64_at {n : ℕ} {e : EltTy} (x : (⟨2, ![1024, n]⟩ : Shape).Idx → Elt Ideal e) (i : Fin 1024) (h : i.val / 64 < 16) (k : Fin n) :
    rows64 x (i.val / 64) h (ix2 (⟨i.val % 64, Nat.mod_lt _ (by decide)⟩ : Fin 64) k) = x (ix2 i k) := by
  show x (ix2 (⟨64 * (i.val / 64) + i.val % 64, _⟩ : Fin 1024) k) = _
  congr 2
  exact Fin.ext (Nat.div_add_mod i.val 64)

/-- The token codes after the first loop are the codes of the token rows. -/
theorem XC_at (x : Vec Ideal S1024x5120 .bf16) (i : Fin 1024) (k : Fin 5120) : XC x (ix2 i k) = code (fun k : Fin 5120 => x (ix2 i k)) k := by
  have hi : i.val / 64 < 16 := by have := i.isLt; omega
  show rowXC (rows64 x (i.val / 64) hi) (ix2 (⟨i.val % 64, Nat.mod_lt _ (by decide)⟩ : Fin 64) k) = _
  rw [rowXC_at]
  simp only [rows64_at]

/-- The token scales after the first loop are the scales of the token rows. -/
theorem XS_at (x : Vec Ideal S1024x5120 .bf16) (i : Fin 1024) : XS x (ix2 i 0) = scale (fun k : Fin 5120 => x (ix2 i k)) := by
  have hi : i.val / 64 < 16 := by have := i.isLt; omega
  show rowXS (rows64 x (i.val / 64) hi) (ix2 (⟨i.val % 64, Nat.mod_lt _ (by decide)⟩ : Fin 64) 0) = _
  rw [rowXS_at]
  simp only [rows64_at]

/-- The hidden scales after the second loop are the scales of the lanes' maxima. -/
theorem HS_at (mx : Vec Ideal S1024x128 .f32) (i : Fin 1024) : HS mx (ix2 i 0) = rscale (F := Ideal) (Finset.univ.fold max ⊥ fun l : Fin 128 => mx (ix2 i l)) := by
  have hi : i.val / 64 < 16 := by have := i.isLt; omega
  show rowHS (rows64 mx (i.val / 64) hi) (ix2 (⟨i.val % 64, Nat.mod_lt _ (by decide)⟩ : Fin 64) 0) = _
  rw [rowHS_at]
  simp only [rows64_at]

/-- The hidden codes after the second loop are the clipped products of the scratch entries with the inverse scales. -/
theorem HC_at (h : Vec Ideal S9x1024x384 .f32) (mx : Vec Ideal S1024x128 .f32) (i : Fin 1024) (k : Fin 3456) :
    HC h mx (ix2 i k) = clip (h (ix3 (⟨k.val / 384, by omega⟩ : Fin 9) i (⟨k.val % 384, Nat.mod_lt _ (by decide)⟩ : Fin 384)))
      (rinv (F := Ideal) (Finset.univ.fold max ⊥ fun l : Fin 128 => mx (ix2 i l))) := by
  have hi : i.val / 64 < 16 := by have := i.isLt; omega
  show rowHC (rowHI (rows64 mx (i.val / 64) hi)) (tile64 h ⟨k.val / 384, by omega⟩ (i.val / 64) hi)
    (ix2 (⟨i.val % 64, Nat.mod_lt _ (by decide)⟩ : Fin 64) (⟨k.val % 384, Nat.mod_lt _ (by decide)⟩ : Fin 384)) = _
  rw [rowHC_at, rowHI_at]
  simp only [rows64_at]
  congr 1
  show h (ix3 _ (⟨64 * (i.val / 64) + i.val % 64, _⟩ : Fin 1024) _) = _
  congr 2
  exact Fin.ext (Nat.div_add_mod i.val 64)

/-- The gated tile before it is laid out as a plane of the scratch. -/
theorem tile_at (x : Vec Ideal S1024x5120 .bf16) (wg wu : Vec Ideal S384x5120 .fp8e4m3) (sg su : Vec Ideal S1x384 .f32) (i : Fin 1024) (l : Fin 384) :
    k0_pay16 (XS x) (XC x) wg sg (XC x) wu su (ix2 i l) = hid (proj (fun k : Fin 5120 => x (ix2 i k)) (fun k => wg (ix2 l k)) (sg (ix2 0 l)))
      (proj (fun k : Fin 5120 => x (ix2 i k)) (fun k => wu (ix2 l k)) (su (ix2 0 l))) := by
  rw [pay16_gen, gateT_at, projT_at, projT_at, XS_at]
  simp only [XC_at]
  rfl

/-- The plane that a point stores, entry by entry. -/
theorem tileH_at (x : Vec Ideal S1024x5120 .bf16) (wg wu : Vec Ideal S384x5120 .fp8e4m3) (sg su : Vec Ideal S1x384 .f32) (i : Fin 1024) (l : Fin 384) :
    tileH (XS x) (XC x) wg sg wu su (ix3 0 i l) = hid (proj (fun k : Fin 5120 => x (ix2 i k)) (fun k => wg (ix2 l k)) (sg (ix2 0 l)))
      (proj (fun k : Fin 5120 => x (ix2 i k)) (fun k => wu (ix2 l k)) (su (ix2 0 l))) := by
  rw [← tile_at]
  unfold tileH k0_pay17
  exact pay17_at _ i l

/-- The running maximum after one tile: at most `b` where it was and the tile's absolute values are. -/
theorem stepM_le (x : Vec Ideal S1024x5120 .bf16) (wg wu : Vec Ideal S384x5120 .fp8e4m3) (sg su : Vec Ideal S1x384 .f32) (mx : Vec Ideal S1024x128 .f32)
    (T : Fin 384 → EReal) (i : Fin 1024) (hT : ∀ l : Fin 384, k0_pay16 (XS x) (XC x) wg sg (XC x) wu su (ix2 i l) = T l) (l : Fin 128) (b : EReal) :
    stepM (XS x) (XC x) wg sg wu su mx (ix2 i l) ≤ b ↔ mx (ix2 i l) ≤ b ∧ ∀ q : Fin 3, max (T ⟨128 * q.val + l.val, by omega⟩) (-(T ⟨128 * q.val + l.val, by omega⟩)) ≤ b := by
  have h : stepM (XS x) (XC x) wg sg wu su mx (ix2 i l) = k0_pay3 (absf (k0_pay16 (XS x) (XC x) wg sg (XC x) wu su)) mx (ix2 i l) := rfl
  have e : (⟨128 * (0 : Fin 3).val + l.val, by simp; omega⟩ : Fin 384) = ⟨l.val, by omega⟩ := Fin.ext (by simp)
  rw [h, pay3_at, hT, hT, hT, max_le_iff, max_le_iff, max_le_iff]
  constructor
  · rintro ⟨⟨⟨h, h0⟩, h1⟩, h2⟩
    refine ⟨h, fun q => ?_⟩
    match q with
    | ⟨0, _⟩ => exact e.symm ▸ h0
    | ⟨1, _⟩ => exact h1
    | ⟨2, _⟩ => exact h2
  · rintro ⟨h, hq⟩
    exact ⟨⟨⟨h, e ▸ hq 0⟩, hq 1⟩, hq 2⟩

/-! ## The windows' blocks -/

variable (m : (ℓ : Loc nD τ sig) → Buf (Elt Ideal) ℓ) (c : Dev nD)

/-- The tokens, row by row. -/
def kx (i : Fin 1024) (k : Fin 5120) : EReal := V m c main_v2 (ix2 i k)
/-- The fused weights, row by row. -/
def kw (j : Fin 6912) (k : Fin 5120) : EReal := V m c main_arg1 (ix2 j k)
/-- The fused weights' scales. -/
def ks (j : Fin 6912) : EReal := V m c main_v0 (ix2 0 j)
/-- The down weights, row by row. -/
def kwd (j : Fin 5120) (k : Fin 3456) : EReal := V m c main_arg3 (ix2 j k)
/-- The down weights' scales. -/
def ksd (j : Fin 5120) : EReal := V m c main_v1 (ix2 0 j)

/-- The block each window takes at each point. -/
theorem idx : ∀ t : Fin cfg0.N, win0_0.index t = ![0, 0] ∧ (t.val < 9 → win0_1.index t = ![t.val, 0] ∧ win0_2.index t = ![9 + t.val, 0]
    ∧ win0_3.index t = ![0, t.val] ∧ win0_4.index t = ![0, 9 + t.val]) ∧ (9 ≤ t.val → win0_5.index t = ![t.val - 9, 0] ∧ win0_6.index t = ![0, t.val - 9]
    ∧ win0_7.index t = ![0, t.val - 9]) ∧ win0_8.index t = ![0, 0] ∧ win0_9.index t = ![0, 0] ∧ win0_10.index t = ![0, 0] ∧ win0_11.index t = ![0, 0] :=
  (by decide +kernel : ∀ t : Fin grid0.N, _)

/-- The token block is the whole token array. -/
theorem iblk_0 (t : Fin cfg0.N) (i : Fin 1024) (k : Fin 5120) : iblk m c 0 t (ix2 i k) = kx m c i k := by
  unfold kx
  blk_ext [iblk, idx t]
/-- The gate weights of point `t` are rows `384 t` and on of the fused weights. -/
theorem iblk_1 (t : Fin cfg0.N) (h : t.val < 9) (l : Fin 384) (k : Fin 5120) : iblk m c 1 t (ix2 l k) = kw m c ⟨384 * t.val + l.val, by omega⟩ k := by
  unfold kw
  blk_ext [iblk, (idx t).2.1 h]
/-- The up weights of point `t` are rows `3456 + 384 t` and on of the fused weights. -/
theorem iblk_2 (t : Fin cfg0.N) (h : t.val < 9) (l : Fin 384) (k : Fin 5120) : iblk m c 2 t (ix2 l k) = kw m c ⟨3456 + (384 * t.val + l.val), by omega⟩ k := by
  unfold kw
  blk_ext [iblk, (idx t).2.1 h]
/-- The gate weights' scales of point `t`. -/
theorem iblk_3 (t : Fin cfg0.N) (h : t.val < 9) (l : Fin 384) : iblk m c 3 t (ix2 0 l) = ks m c ⟨384 * t.val + l.val, by omega⟩ := by
  unfold ks
  blk_ext [iblk, (idx t).2.1 h]
/-- The up weights' scales of point `t`. -/
theorem iblk_4 (t : Fin cfg0.N) (h : t.val < 9) (l : Fin 384) : iblk m c 4 t (ix2 0 l) = ks m c ⟨3456 + (384 * t.val + l.val), by omega⟩ := by
  unfold ks
  blk_ext [iblk, (idx t).2.1 h]
/-- The down weights of point `t` are rows `512 (t - 9)` and on. -/
theorem iblk_5 (t : Fin cfg0.N) (h : 9 ≤ t.val) (l : Fin 512) (k : Fin 3456) : iblk m c 5 t (ix2 l k) = kwd m c ⟨512 * (t.val - 9) + l.val, by have := t.isLt; have : cfg0.N = 19 := N_0; omega⟩ k := by
  unfold kwd
  blk_ext [iblk, (idx t).2.2.1 h]
/-- The down weights' scales of point `t`. -/
theorem iblk_6 (t : Fin cfg0.N) (h : 9 ≤ t.val) (l : Fin 512) : iblk m c 6 t (ix2 0 l) = ksd m c ⟨512 * (t.val - 9) + l.val, by have := t.isLt; have : cfg0.N = 19 := N_0; omega⟩ := by
  unfold ksd
  blk_ext [iblk, (idx t).2.2.1 h]

/-! ## The hidden rows -/

/-- The hidden rows of the kernel's arguments. -/
abbrev kh (i : Fin 1024) : Fin 3456 → EReal := hidden (kx m c) (kw m c) (ks m c) i

/-- The codes and scales of the tokens. -/
theorem XCt_at (i : Fin 1024) (k : Fin 5120) : XCt m c (ix2 i k) = code (kx m c i) k := by
  unfold XCt
  rw [XC_at]
  simp only [iblk_0]
/-- The scales of the tokens. -/
theorem XSt_at (i : Fin 1024) : XSt m c (ix2 i 0) = scale (kx m c i) := by
  unfold XSt
  rw [XS_at]
  simp only [iblk_0]

/-- Point `t`'s gated tile is the hidden rows' columns `384 t` and on. -/
theorem tile_hid (t : Fin cfg0.N) (h : t.val < 9) (i : Fin 1024) (l : Fin 384) :
    k0_pay16 (XSt m c) (XCt m c) (iblk m c 1 t) (iblk m c 3 t) (XCt m c) (iblk m c 2 t) (iblk m c 4 t) (ix2 i l) = kh m c i ⟨384 * t.val + l.val, by omega⟩ := by
  unfold XSt XCt
  rw [tile_at]
  simp only [iblk_0, iblk_1 m c t h, iblk_2 m c t h, iblk_3 m c t h, iblk_4 m c t h]
  rfl
/-- The plane of point `t` is the hidden rows' columns `384 t` and on. -/
theorem TH_at (t : Fin cfg0.N) (h : t.val < 9) (i : Fin 1024) (l : Fin 384) : TH m c t (ix3 0 i l) = kh m c i ⟨384 * t.val + l.val, by omega⟩ := by
  unfold TH XSt XCt
  rw [tileH_at]
  simp only [iblk_0, iblk_1 m c t h, iblk_2 m c t h, iblk_3 m c t h, iblk_4 m c t h]
  rfl
/-- The planes together are the hidden rows. -/
theorem HH_at (j : Fin 9) (i : Fin 1024) (l : Fin 384) : HH m c (ix3 j i l) = kh m c i ⟨384 * j.val + l.val, by omega⟩ :=
  TH_at m c (tj j.val j.isLt) j.isLt i l

/-- The running maximum before point `n`: at most `b` where nought and the lane's absolute values so far are. -/
theorem MX_le (n : ℕ) (hn : n ≤ 9) (i : Fin 1024) (l : Fin 128) (b : EReal) :
    MX m c n (ix2 i l) ≤ b ↔ 0 ≤ b ∧ ∀ k : Fin 3456, k.val < 384 * n → k.val % 128 = l.val → max (kh m c i k) (-(kh m c i k)) ≤ b := by
  induction n with
  | zero =>
    have : MX m c 0 (ix2 i l) = 0 := pay2_at i l
    rw [this]
    exact ⟨fun h => ⟨h, fun k hk => absurd hk (by omega)⟩, fun h => h.1⟩
  | succ n ih =>
    have hn' : n < 9 := by omega
    have e : MX m c (n + 1) = stepM (XSt m c) (XCt m c) (iblk m c 1 (tj n hn')) (iblk m c 3 (tj n hn')) (iblk m c 2 (tj n hn')) (iblk m c 4 (tj n hn')) (MX m c n) := by
      show (if h : n < 9 then _ else _) = _
      rw [dif_pos hn']
    rw [e]
    unfold XSt XCt
    rw [stepM_le _ _ _ _ _ _ (fun l => kh m c i ⟨384 * n + l.val, by omega⟩) i (fun l => tile_hid m c (tj n hn') hn' i l), ih (by omega)]
    constructor
    · rintro ⟨⟨h0, h1⟩, h2⟩
      refine ⟨h0, fun k hk hl => ?_⟩
      by_cases hk' : k.val < 384 * n
      · exact h1 k hk' hl
      · have hq : (k.val - 384 * n) / 128 < 3 := by omega
        have := h2 ⟨(k.val - 384 * n) / 128, hq⟩
        have ek : k = ⟨384 * n + (128 * ((k.val - 384 * n) / 128) + l.val), by omega⟩ := Fin.ext (by simp only; omega)
        rw [ek]
        exact this
    · rintro ⟨h0, h1⟩
      exact ⟨⟨h0, fun k hk hl => h1 k (by omega) hl⟩, fun q => h1 _ (by simp only; omega) (by simp only; omega)⟩

/-- The lanes' maximum after all nine tiles is the largest absolute value of the hidden row. -/
theorem MX_amax (i : Fin 1024) : (Finset.univ.fold max ⊥ fun l : Fin 128 => MX m c 9 (ix2 i l)) = amax (kh m c i) := by
  refine eq_of_forall_ge_iff fun b => ?_
  unfold amax
  rw [Finset.fold_max_le, Finset.fold_max_le]
  constructor
  · rintro ⟨-, h⟩
    refine ⟨bot_le, fun k _ => ?_⟩
    exact ((MX_le m c 9 le_rfl i ⟨k.val % 128, Nat.mod_lt _ (by decide)⟩ b).mp (h _ (Finset.mem_univ _))).2 k k.isLt rfl
  · rintro ⟨-, h⟩
    refine ⟨bot_le, fun l _ => (MX_le m c 9 le_rfl i l b).mpr ⟨?_, fun k _ _ => h k (Finset.mem_univ _)⟩⟩
    have hk := h ⟨0, by decide⟩ (Finset.mem_univ _)
    refine le_trans ?_ hk
    rcases le_total 0 (kh m c i ⟨0, by decide⟩) with h0 | h0
    · exact le_max_of_le_left h0
    · exact le_max_of_le_right (EReal.neg_nonneg.mpr h0)

/-- The codes and scales of the hidden rows. -/
theorem HCt_at (i : Fin 1024) (k : Fin 3456) : HCt m c (ix2 i k) = code (kh m c i) k := by
  unfold HCt
  rw [HC_at, MX_amax, HH_at]
  have ek : (⟨384 * (k.val / 384) + k.val % 384, by omega⟩ : Fin 3456) = k := Fin.ext (Nat.div_add_mod k.val 384)
  simp only [ek]
  rfl
/-- The scales of the hidden rows. -/
theorem HSt_at (i : Fin 1024) : HSt m c (ix2 i 0) = scale (kh m c i) := by
  unfold HSt
  rw [HS_at, MX_amax]
  rfl

/-- The output tile of point `t`. -/
theorem OUTt_at (t : Fin cfg0.N) (h : 9 ≤ t.val) (i : Fin 1024) (l : Fin 512) :
    OUTt m c t (ix2 i l) = proj (kh m c i) (kwd m c ⟨512 * (t.val - 9) + l.val, by have := t.isLt; have : cfg0.N = 19 := N_0; omega⟩)
      (ksd m c ⟨512 * (t.val - 9) + l.val, by have := t.isLt; have : cfg0.N = 19 := N_0; omega⟩) := by
  unfold OUTt
  rw [pay6_at, HSt_at]
  simp only [HCt_at, iblk_5 m c t h, iblk_6 m c t h]
  rfl

/-! ## The arrays after the run -/

/-- The output tiles are written back from point 9 on. -/
theorem flush7 : ∀ t : Fin cfg0.N, (cfg0.win 7).flush t = true → 9 ≤ t.val := (by decide +kernel : ∀ t : Fin grid0.N, win0_7.flush t = true → 9 ≤ t.val)

/-- The output array, its columns tile by tile. -/
def OUT : S1024x5120.Idx → EReal := fun y => proj (kh m c (y 0)) (kwd m c (y 1)) (ksd m c (y 1))

/-- An entry of point `t`'s output tile is the output array's where the tile lands. -/
theorem OUTt_emb (t : Fin cfg0.N) (h : 9 ≤ t.val) (i : Fin 1024) (l : Fin 512) :
    OUTt m c t (ix2 i l) = OUT m c (ix2 i (⟨512 * (t.val - 9) + l.val, by have := t.isLt; have : cfg0.N = 19 := N_0; omega⟩ : Fin 5120)) :=
  OUTt_at m c t h i l

section After
variable (after : (w : Fin cfg0.W) → Fin cfg0.N → (cfg0.win w).block.Idx → Elt Ideal (cfg0.win w).elt)
  (hL : ∀ w u, (cfg0.win w).flush u = true → (rdat m c).Leaves w u (after w u))
include hL

/-- The last grid point. -/
def tl : Fin cfg0.N := ⟨18, by have : cfg0.N = 19 := N_0; omega⟩

/-- What point `t` leaves in the output window is its output tile. -/
theorem after_7 (t : Fin cfg0.N) (hf : (cfg0.win 7).flush t = true) (h : 9 ≤ t.val) : after 7 t = OUTt m c t := by
  obtain ⟨Y, -, hX⟩ := hL 7 t hf
  rw [rafter_7] at hX
  exact hX h
/-- The last point leaves the token codes. -/
theorem after_8 : after 8 tl = XCt m c := by
  obtain ⟨Y, -, hX⟩ := hL 8 tl ((flush0_8 tl).mpr rfl)
  rwa [rafter_8] at hX
/-- The last point leaves the token scales. -/
theorem after_9 : after 9 tl = XSt m c := by
  obtain ⟨Y, -, hX⟩ := hL 9 tl ((flush0_9 tl).mpr rfl)
  rwa [rafter_9] at hX
/-- The last point leaves the hidden codes. -/
theorem after_10 : after 10 tl = HCt m c := by
  obtain ⟨Y, -, hX⟩ := hL 10 tl ((flush0_10 tl).mpr rfl)
  rw [rafter_10] at hX
  exact hX (by decide)
/-- The last point leaves the hidden scales. -/
theorem after_11 : after 11 tl = HSt m c := by
  obtain ⟨Y, -, hX⟩ := hL 11 tl ((flush0_11 tl).mpr rfl)
  rw [rafter_11] at hX
  exact hX (by decide)

/-- The token code array after the run. -/
theorem final_8 : ((rdat m c).withAfter after).arrAt 8 cfg0.N = XCt m c := by
  refine ((rdat m c).withAfter after).arrAt_eq_of_after_last 8 tl (by decide +kernel) _ fun j => ?_
  blk_simp
  rw [RDat.withAfter_after, after_8 m c after hL]
/-- The token scale array after the run. -/
theorem final_9 : ((rdat m c).withAfter after).arrAt 9 cfg0.N = XSt m c := by
  refine ((rdat m c).withAfter after).arrAt_eq_of_after_last 9 tl (by decide +kernel) _ fun j => ?_
  blk_simp
  rw [RDat.withAfter_after, after_9 m c after hL]
/-- The hidden code array after the run. -/
theorem final_10 : ((rdat m c).withAfter after).arrAt 10 cfg0.N = HCt m c := by
  refine ((rdat m c).withAfter after).arrAt_eq_of_after_last 10 tl (by decide +kernel) _ fun j => ?_
  blk_simp
  rw [RDat.withAfter_after, after_10 m c after hL]
/-- The hidden scale array after the run. -/
theorem final_11 : ((rdat m c).withAfter after).arrAt 11 cfg0.N = HSt m c := by
  refine ((rdat m c).withAfter after).arrAt_eq_of_after_last 11 tl (by decide +kernel) _ fun j => ?_
  blk_simp
  rw [RDat.withAfter_after, after_11 m c after hL]

/-- The output array after the run. -/
theorem final_7 : ((rdat m c).withAfter after).arrAt 7 cfg0.N = OUT m c := by
  refine ((rdat m c).withAfter after).arrAt_eq_of_covers 7 _ (by decide +kernel) fun t hf y => ?_
  have h := flush7 t hf
  blk_simp
  rw [RDat.withAfter_after, after_7 m c after hL t hf h]
  idx_vars y
  rw [OUTt_emb m c t h]
  blk_ext [(idx t).2.2.1 h]

end After

end Cert.KernelIdeal.Gen

end
-- ==== Proof.RefRows.lean ====
/- What the reference computes over the extended reals, entry by entry. -/
module

public import proofs.«01_k».proof.Proof.Rows
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Cert.Quant

section Generic
variable {F : FTy → Type} [FloatOps F]

/-- The column of the token rows' largest absolute values. -/
def mx1 (x : Vec F S1024x5120 .bf16) : FVec F S1024x1 .f32 :=
  shapeCast S1024x1 (multiReduction .maximumf [1] S1024 (absf (k0_pay1 x)) 0xFF800000#32 reduces_S1024x5120_S1024 (.inl rfl) rfl) shapeCasts_S1024_S1024x1

/-- The column of the hidden rows' largest absolute values. -/
def mx2 (h : FVec F S1024x3456 .f32) : FVec F S1024x1 .f32 :=
  shapeCast S1024x1 (multiReduction .maximumf [1] S1024 (absf h) 0xFF800000#32 reduces_S1024x3456_S1024 (.inl rfl) rfl) shapeCasts_S1024_S1024x1

/-- A vector clipped to the format's range after a product with a column. -/
def clip1 (x : FVec F S1024x5120 .f32) (s : FVec F S1024x1 .f32) : FVec F S1024x5120 .fp8e4m3 :=
  truncf .fp8e4m3 (minimumf (broadcast S1024x5120 (Scalar.ofBits .f32 0x43E00000#32)) (maximumf (broadcast S1024x5120 (Scalar.ofBits .f32 0xC3E00000#32))
    (mulf x (broadcastTo S1024x5120 s broadcasts_S1024x1_S1024x5120)))) bitsLt_fp8e4m3_f32
/-- The same for the hidden rows. -/
def clip2 (x : FVec F S1024x3456 .f32) (s : FVec F S1024x1 .f32) : FVec F S1024x3456 .fp8e4m3 :=
  truncf .fp8e4m3 (minimumf (broadcast S1024x3456 (Scalar.ofBits .f32 0x43E00000#32)) (maximumf (broadcast S1024x3456 (Scalar.ofBits .f32 0xC3E00000#32))
    (mulf x (broadcastTo S1024x3456 s broadcasts_S1024x1_S1024x3456)))) bitsLt_fp8e4m3_f32

/-- The token codes are the clipped products with the scalar inverse scale. -/
theorem pay3_gen (x : Vec F S1024x5120 .bf16) : k0_pay3 x = clip1 (k0_pay1 x) (fun y => rinv (mx1 x y)) := rfl
/-- The token scales are the scalar scale, entry by entry. -/
theorem pay4_gen (x : Vec F S1024x5120 .bf16) : k0_pay4 x = fun y => rscale (mx1 x y) := rfl
/-- The hidden codes are the clipped products with the scalar inverse scale. -/
theorem pay9_gen (a : FVec F S1024x6912 .f32) (b : FVec F S1024x3456 .f32) : k0_pay9 a b = clip2 (k0_pay7 a b) (fun y => rinv (mx2 (k0_pay7 a b) y)) := rfl
/-- The hidden scales are the scalar scale, entry by entry. -/
theorem pay10_gen (a : FVec F S1024x6912 .f32) (b : FVec F S1024x3456 .f32) : k0_pay10 a b = fun y => rscale (mx2 (k0_pay7 a b) y) := rfl

/-- The fused projection over codes and scales. -/
def proj1 (xc : FVec F S1024x5120 .fp8e4m3) (xs : FVec F S1024x1 .f32) (w : Vec F S6912x5120 .fp8e4m3) (s : Vec F S1x6912 .f32) : FVec F S1024x6912 .f32 :=
  mulf (mulf (matmul dot_S1024x5120_S6912x5120_S1024x6912_1_1_0_0_n_n none xc w (constant S1024x6912 .f32 0x00000000#32))
    (broadcastTo S1024x6912 xs broadcasts_S1024x1_S1024x6912)) (broadcastTo S1024x6912 (shapeCast S1x6912 s shapeCasts_S1x6912_S1x6912) broadcasts_S1x6912_S1024x6912)
/-- The reference's projection is that of its token codes and scales. -/
theorem pay5_gen (x : Vec F S1024x5120 .bf16) (w : Vec F S6912x5120 .fp8e4m3) (s : Vec F S1x6912 .f32) : k0_pay5 x w s = proj1 (k0_pay3 x) (k0_pay4 x) w s := rfl

/-- The gate half of the projection through silu. -/
def gate (g : FVec F S1024x6912 .f32) : FVec F S1024x3456 .f32 :=
  mulf (extractStridedSlice S1024x3456 ![0, 0] g slices_S1024x6912_o0_0_S1024x3456) (logistic (extractStridedSlice S1024x3456 ![0, 0] g slices_S1024x6912_o0_0_S1024x3456))
/-- The reference's gate is that of its projection. -/
theorem pay6_gen (x : Vec F S1024x5120 .bf16) (w : Vec F S6912x5120 .fp8e4m3) (s : Vec F S1x6912 .f32) : k0_pay6 x w s = gate (k0_pay5 x w s) := rfl

/-- The down projection over codes and scales. -/
def proj2 (hc : FVec F S1024x3456 .fp8e4m3) (hs : FVec F S1024x1 .f32) (w : Vec F S5120x3456 .fp8e4m3) (s : Vec F S1x5120 .f32) : FVec F S1024x5120 .bf16 :=
  truncf .bf16 (mulf (mulf (matmul dot_S1024x3456_S5120x3456_S1024x5120_1_1_0_0_n_n none hc w (constant S1024x5120 .f32 0x00000000#32))
    (broadcastTo S1024x5120 hs broadcasts_S1024x1_S1024x5120)) (broadcastTo S1024x5120 (shapeCast S1x5120 s shapeCasts_S1x5120_S1x5120) broadcasts_S1x5120_S1024x5120)) bitsLt_bf16_f32
/-- The reference's output is the down projection of its hidden codes and scales. -/
theorem pay11_gen (a : FVec F S1024x6912 .f32) (b : FVec F S1024x3456 .f32) (w : Vec F S5120x3456 .fp8e4m3) (s : Vec F S1x5120 .f32) :
    k0_pay11 a b w s = proj2 (k0_pay9 a b) (k0_pay10 a b) w s := rfl

end Generic

/-- The tokens widened keep their values. -/
theorem pay1_at (x : Vec Ideal S1024x5120 .bf16) (i : Fin 1024) (k : Fin 5120) : k0_pay1 x (ix2 i k) = x (ix2 i k) := by pointwise [k0_pay1]

/-- The hidden rows' maximum is their largest absolute value. -/
theorem mx2_at (h : FVec Ideal S1024x3456 .f32) (i : Fin 1024) : mx2 h (ix2 i 0) = amax fun k : Fin 3456 => h (ix2 i k) := by
  pointwise [mx2]
  rw [bits_ninf32]
  rfl
/-- The token rows' maximum is their largest absolute value. -/
theorem mx1_at (x : Vec Ideal S1024x5120 .bf16) (i : Fin 1024) : mx1 x (ix2 i 0) = amax fun k : Fin 5120 => x (ix2 i k) := by
  pointwise [mx1, k0_pay1]
  rw [bits_ninf32]
  rfl

/-- An entry of the clipped token rows. -/
theorem clip1_at (x : FVec Ideal S1024x5120 .f32) (s : FVec Ideal S1024x1 .f32) (i : Fin 1024) (k : Fin 5120) :
    clip1 x s (ix2 i k) = clip (x (ix2 i k)) (s (ix2 i 0)) := by
  pointwise [clip1]
  rfl
/-- An entry of the clipped hidden rows. -/
theorem clip2_at (x : FVec Ideal S1024x3456 .f32) (s : FVec Ideal S1024x1 .f32) (i : Fin 1024) (k : Fin 3456) :
    clip2 x s (ix2 i k) = clip (x (ix2 i k)) (s (ix2 i 0)) := by
  pointwise [clip2]
  rfl
/-- An entry of the fused projection: a sum of products, times the row's scale, times the weights' scale. -/
theorem proj1_at (xc : FVec Ideal S1024x5120 .fp8e4m3) (xs : FVec Ideal S1024x1 .f32) (w : Vec Ideal S6912x5120 .fp8e4m3) (s : Vec Ideal S1x6912 .f32) (i : Fin 1024) (k : Fin 6912) :
    proj1 xc xs w s (ix2 i k) = (∑ l : Fin 5120, xc (ix2 i l) * w (ix2 k l)) * xs (ix2 i 0) * s (ix2 0 k) := by
  pointwise [proj1]
/-- An entry of the down projection: a sum of products, times the row's scale, times the weights' scale. -/
theorem proj2_at (xc : FVec Ideal S1024x3456 .fp8e4m3) (xs : FVec Ideal S1024x1 .f32) (w : Vec Ideal S5120x3456 .fp8e4m3) (s : Vec Ideal S1x5120 .f32) (i : Fin 1024) (k : Fin 5120) :
    proj2 xc xs w s (ix2 i k) = (∑ l : Fin 3456, xc (ix2 i l) * w (ix2 k l)) * xs (ix2 i 0) * s (ix2 0 k) := by
  pointwise [proj2]
/-- An entry of the gate. -/
theorem gate_at (g : FVec Ideal S1024x6912 .f32) (i : Fin 1024) (k : Fin 3456) :
    gate g (ix2 i k) = g (ix2 i ⟨k.val, by omega⟩) * Ideal.logistic (g (ix2 i ⟨k.val, by omega⟩)) := by
  pointwise [gate]
/-- An entry of the hidden rows: the gate times the up half of the projection. -/
theorem pay7_at (g : FVec Ideal S1024x6912 .f32) (h : FVec Ideal S1024x3456 .f32) (i : Fin 1024) (k : Fin 3456) :
    k0_pay7 g h (ix2 i k) = h (ix2 i k) * g (ix2 i ⟨3456 + k.val, by omega⟩) := by
  pointwise [k0_pay7]

section Whole
variable (x : Vec Ideal S1024x5120 .bf16) (w : Vec Ideal S6912x5120 .fp8e4m3) (s : Vec Ideal S1x6912 .f32)
  (wd : Vec Ideal S5120x3456 .fp8e4m3) (sd : Vec Ideal S1x5120 .f32) (i : Fin 1024)

/-- The reference's token codes are the codes of the token rows. -/
theorem pay3_at (k : Fin 5120) : k0_pay3 x (ix2 i k) = code (fun k : Fin 5120 => x (ix2 i k)) k := by
  rw [pay3_gen, clip1_at, pay1_at]
  show clip _ (rinv (F := Ideal) (mx1 x (ix2 i 0))) = _
  rw [mx1_at]
  rfl

/-- The reference's token scales are the scales of the token rows. -/
theorem pay4_at : k0_pay4 x (ix2 i 0) = scale (fun k : Fin 5120 => x (ix2 i k)) := by
  rw [pay4_gen]
  show rscale (F := Ideal) (mx1 x (ix2 i 0)) = _
  rw [mx1_at]
  rfl

/-- The reference's fused projection. -/
theorem pay5_at (j : Fin 6912) : k0_pay5 x w s (ix2 i j) = proj (fun k : Fin 5120 => x (ix2 i k)) (fun k => w (ix2 j k)) (s (ix2 0 j)) := by
  rw [pay5_gen, proj1_at, pay4_at]
  simp only [pay3_at]
  rfl

/-- The reference's hidden entry. -/
theorem hid_at (k : Fin 3456) : k0_pay7 (k0_pay5 x w s) (k0_pay6 x w s) (ix2 i k)
    = hidden (fun i k => x (ix2 i k)) (fun j k => w (ix2 j k)) (fun j => s (ix2 0 j)) i k := by
  rw [pay7_at, pay6_gen, gate_at, pay5_at, pay5_at]
  rfl

/-- The reference's hidden codes. -/
theorem pay9_at (k : Fin 3456) : k0_pay9 (k0_pay5 x w s) (k0_pay6 x w s) (ix2 i k)
    = code (hidden (fun i k => x (ix2 i k)) (fun j k => w (ix2 j k)) (fun j => s (ix2 0 j)) i) k := by
  rw [pay9_gen, clip2_at]
  show clip _ (rinv (F := Ideal) (mx2 (k0_pay7 (k0_pay5 x w s) (k0_pay6 x w s)) (ix2 i 0))) = _
  rw [mx2_at]
  simp only [hid_at]
  rfl

/-- The reference's hidden scales. -/
theorem pay10_at : k0_pay10 (k0_pay5 x w s) (k0_pay6 x w s) (ix2 i 0)
    = scale (hidden (fun i k => x (ix2 i k)) (fun j k => w (ix2 j k)) (fun j => s (ix2 0 j)) i) := by
  rw [pay10_gen]
  show rscale (F := Ideal) (mx2 (k0_pay7 (k0_pay5 x w s) (k0_pay6 x w s)) (ix2 i 0)) = _
  rw [mx2_at]
  simp only [hid_at]
  rfl

/-- The reference's output. -/
theorem pay11_at (j : Fin 5120) : k0_pay11 (k0_pay5 x w s) (k0_pay6 x w s) wd sd (ix2 i j)
    = proj (hidden (fun i k => x (ix2 i k)) (fun j k => w (ix2 j k)) (fun j => s (ix2 0 j)) i) (fun k => wd (ix2 j k)) (sd (ix2 0 j)) := by
  rw [pay11_gen, proj2_at, pay10_at]
  simp only [pay9_at]
  rfl

end Whole

end Cert.ReferenceIdeal.Gen

end
-- ==== Proof.RefValue.lean ====
/- What the reference's five result arrays hold after its run, over the extended reals. -/
module

public import proofs.«01_k».proof.Proof.RefRows
public import Idealize.ShloMosaic.Lib.Pipeline.ValueKit
public import Idealize.ShloMosaic.Lib.Claim

@[expose] public section

set_option maxRecDepth 16384

noncomputable section

namespace Cert.ReferenceIdeal.Gen

open Idealize.ShloMosaic Idealize.ShloMosaic.TcCoe Idealize.ShloMosaic.Tactic
open Cert.Quant

variable (m : (ℓ : Loc nD τ sig) → Buf (Elt Ideal) ℓ) (c : Dev nD)

/-- The tokens, row by row. -/
def rx (i : Fin 1024) (k : Fin 5120) : EReal := V m c main_v0 (ix2 i k)
/-- The fused weights, row by row. -/
def rw' (j : Fin 6912) (k : Fin 5120) : EReal := V m c main_arg1 (ix2 j k)
/-- The fused weights' scales. -/
def rs (j : Fin 6912) : EReal := V m c main_v1 (ix2 0 j)
/-- The down weights, row by row. -/
def rwd (j : Fin 5120) (k : Fin 3456) : EReal := V m c main_arg3 (ix2 j k)
/-- The down weights' scales. -/
def rsd (j : Fin 5120) : EReal := V m c main_v2 (ix2 0 j)

/-- Every window takes its whole array. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The one grid point. -/
def tz : Fin cfg0.N := ⟨0, by decide⟩

/-- The token block is the token array. -/
theorem iblk_0 (t : Fin cfg0.N) (i : Fin 1024) (k : Fin 5120) : iblk m c 0 t (ix2 i k) = rx m c i k := by
  unfold rx
  blk_ext [iblk, idx t]
/-- The fused weight block is the fused weights. -/
theorem iblk_1 (t : Fin cfg0.N) (j : Fin 6912) (k : Fin 5120) : iblk m c 1 t (ix2 j k) = rw' m c j k := by
  unfold rw'
  blk_ext [iblk, idx t]
/-- The fused weights' scale block. -/
theorem iblk_2 (t : Fin cfg0.N) (j : Fin 6912) : iblk m c 2 t (ix2 0 j) = rs m c j := by
  unfold rs
  blk_ext [iblk, idx t]
/-- The down weight block is the down weights. -/
theorem iblk_3 (t : Fin cfg0.N) (j : Fin 5120) (k : Fin 3456) : iblk m c 3 t (ix2 j k) = rwd m c j k := by
  unfold rwd
  blk_ext [iblk, idx t]
/-- The down weights' scale block. -/
theorem iblk_4 (t : Fin cfg0.N) (j : Fin 5120) : iblk m c 4 t (ix2 0 j) = rsd m c j := by
  unfold rsd
  blk_ext [iblk, idx t]

section Generic
variable {F : FTy → Type} [FloatOps F]
/-- The offset nought in two dimensions. -/
theorem off2 : (![0, 0] : Fin 2 → ℕ) = fun _ => 0 := by funext a; fin_cases a <;> rfl
/-- The body's projection reads its blocks whole. -/
theorem pay12_gen (a : Vec F S1024x5120 .bf16) (b : Vec F S6912x5120 .fp8e4m3) (d : Vec F S1x6912 .f32) (e : Vec F S5120x3456 .fp8e4m3) (f : Vec F S1x5120 .f32) :
    k0_pay12 a b d e f = k0_pay5 a b d := by
  unfold k0_pay12
  rw [show View.ld a r0_0 = a from View.ld_unit_zero off2 _ _, show View.ld b r0_1 = b from View.ld_unit_zero off2 _ _, show View.ld d r0_2 = d from View.ld_unit_zero off2 _ _]
/-- The body's gate reads its blocks whole. -/
theorem pay13_gen (a : Vec F S1024x5120 .bf16) (b : Vec F S6912x5120 .fp8e4m3) (d : Vec F S1x6912 .f32) (e : Vec F S5120x3456 .fp8e4m3) (f : Vec F S1x5120 .f32) :
    k0_pay13 a b d e f = k0_pay6 a b d := by
  unfold k0_pay13
  rw [show View.ld a r0_0 = a from View.ld_unit_zero off2 _ _, show View.ld b r0_1 = b from View.ld_unit_zero off2 _ _, show View.ld d r0_2 = d from View.ld_unit_zero off2 _ _]
end Generic

/-- The hidden rows of the reference's arguments. -/
abbrev rh (i : Fin 1024) : Fin 3456 → EReal := hidden (rx m c) (rw' m c) (rs m c) i

/-- The output array after the run. -/
theorem final_5 : (dats m 0 c).arrAt 5 cfg0.N = fun y : S1024x5120.Idx => proj (rh m c (y 0)) (rwd m c (y 1)) (rsd m c (y 1)) := by
  refine (dats m 0 c).arrAt_eq_of_after_last 5 tz (by decide +kernel) _ fun j => ?_
  blk_simp
  rw [after0_5]
  frame_out
  idx_vars j
  rw [pay12_gen, pay13_gen, pay11_at]
  simp only [iblk_0, iblk_1, iblk_2, iblk_3, iblk_4]
/-- The token code array after the run. -/
theorem final_6 : (dats m 0 c).arrAt 6 cfg0.N = fun y : S1024x5120.Idx => code (rx m c (y 0)) (y 1) := by
  refine (dats m 0 c).arrAt_eq_of_after_last 6 tz (by decide +kernel) _ fun j => ?_
  blk_simp
  rw [after0_6]
  frame_out
  idx_vars j
  rw [pay3_at]
  simp only [iblk_0]
/-- The token scale array after the run. -/
theorem final_7 : (dats m 0 c).arrAt 7 cfg0.N = fun y : S1024x1.Idx => scale (rx m c (y 0)) := by
  refine (dats m 0 c).arrAt_eq_of_after_last 7 tz (by decide +kernel) _ fun j => ?_
  blk_simp
  rw [after0_7]
  frame_out
  idx_vars j
  obtain rfl : j1 = 0 := Subsingleton.elim _ _
  rw [pay4_at]
  simp only [iblk_0]
/-- The hidden code array after the run. -/
theorem final_8 : (dats m 0 c).arrAt 8 cfg0.N = fun y : S1024x3456.Idx => code (rh m c (y 0)) (y 1) := by
  refine (dats m 0 c).arrAt_eq_of_after_last 8 tz (by decide +kernel) _ fun j => ?_
  blk_simp
  rw [after0_8]
  frame_out
  idx_vars j
  try rw [pay12_gen, pay13_gen]
  rw [pay9_at]
  simp only [iblk_0, iblk_1, iblk_2, iblk_3, iblk_4]
/-- The hidden scale array after the run. -/
theorem final_9 : (dats m 0 c).arrAt 9 cfg0.N = fun y : S1024x1.Idx => scale (rh m c (y 0)) := by
  refine (dats m 0 c).arrAt_eq_of_after_last 9 tz (by decide +kernel) _ fun j => ?_
  blk_simp
  rw [after0_9]
  frame_out
  idx_vars j
  obtain rfl : j1 = 0 := Subsingleton.elim _ _
  try rw [pay12_gen, pay13_gen]
  rw [pay10_at]
  simp only [iblk_0, iblk_1, iblk_2, iblk_3, iblk_4]

end Cert.ReferenceIdeal.Gen

end
-- ==== Proof.Algebra.lean ====
/- Kernel and reference compute the same five arrays over the extended reals. -/
module

public import proofs.«01_k».proof.Defs
public import proofs.«01_k».proof.Proof.KerValue
public import proofs.«01_k».proof.Proof.RefValue

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (RDat Cfg Window)
open Cert.Quant

variable (m : (ℓ : Loc nD τ sig) → Buf (Elt Ideal) ℓ) (ρ : Dev nD → PrngReg)

/-- The kernel's run with every result array named by the mathematics, the arguments unchanged. -/
theorem run_values : θ_run (defs (F := Ideal)) (onTc (τ := τ) (main (F := Ideal))) ⟨m, fun _ => 0, ρ⟩ (fun r => ∀ c : Dev nD,
    r.2.mem ((c.tc : Thread nD τ).loc main_v3_0) = (fun y : S1024x5120.Idx => proj (kh m c (y 0)) (kwd m c (y 1)) (ksd m c (y 1)))
    ∧ r.2.mem ((c.tc : Thread nD τ).loc main_v3_1) = (fun y : S1024x5120.Idx => code (kx m c (y 0)) (y 1))
    ∧ r.2.mem ((c.tc : Thread nD τ).loc main_v3_2) = (fun y : S1024x1.Idx => scale (kx m c (y 0)))
    ∧ r.2.mem ((c.tc : Thread nD τ).loc main_v3_3) = (fun y : S1024x3456.Idx => code (kh m c (y 0)) (y 1))
    ∧ r.2.mem ((c.tc : Thread nD τ).loc main_v3_4) = (fun y : S1024x1.Idx => scale (kh m c (y 0)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main_quiescent m ρ)
  have h1 := h.1
  obtain ⟨after, hL, hA⟩ := RDat.FramePost.exists_exact h1 c
  refine ⟨?_, ?_, ?_, ?_, ?_, ?_, ?_, ?_, ?_, ?_⟩
  · exact (hA 7).trans (final_7 m c after hL)
  · refine ((hA 8).trans (final_8 m c after hL)).trans ?_
    funext y
    idx_vars y
    exact XCt_at m c _ _
  · refine ((hA 9).trans (final_9 m c after hL)).trans ?_
    funext y
    idx_vars y
    obtain rfl : y1 = 0 := Subsingleton.elim _ _
    exact XSt_at m c _
  · refine ((hA 10).trans (final_10 m c after hL)).trans ?_
    funext y
    idx_vars y
    exact HCt_at m c _ _
  · refine ((hA 11).trans (final_11 m c after hL)).trans ?_
    funext y
    idx_vars y
    obtain rfl : y1 = 0 := Subsingleton.elim _ _
    exact HSt_at m c _
  · exact ((h1 c).2 main_arg0 (Pipeline.mem_restRefs_of main_arg0 (by decide) (by decide))).trans (V_main_arg0 m c)
  · exact ((RDat.FramePost.arr_in h1 c 2 rfl).trans (rA_eq m c 2)).trans (V_main_arg1 m c)
  · exact ((h1 c).2 main_arg2 (Pipeline.mem_restRefs_of main_arg2 (by decide) (by decide))).trans (V_main_arg2 m c)
  · exact ((RDat.FramePost.arr_in h1 c 5 rfl).trans (rA_eq m c 5)).trans (V_main_arg3 m c)
  · exact ((h1 c).2 main_arg4 (Pipeline.mem_restRefs_of main_arg4 (by decide) (by decide))).trans (V_main_arg4 m c)

end Cert.KernelIdeal.Gen

namespace Cert.ReferenceIdeal.Gen

open Idealize.ShloMosaic Idealize.ShloMosaic.TcCoe Idealize.ShloMosaic.Tactic Idealize.SL.Sem
open Cert.Quant

variable (m : (ℓ : Loc nD τ sig) → Buf (Elt Ideal) ℓ) (ρ : Dev nD → PrngReg)

/-- The reference's run with every result array named by the mathematics, the arguments unchanged. -/
theorem run_values : θ_run (defs (F := Ideal)) (onTc (τ := τ) (main (F := Ideal))) ⟨m, fun _ => 0, ρ⟩ (fun r => ∀ c : Dev nD,
    r.2.mem ((c.tc : Thread nD τ).loc main_v3_0) = (fun y : S1024x5120.Idx => proj (rh m c (y 0)) (rwd m c (y 1)) (rsd m c (y 1)))
    ∧ r.2.mem ((c.tc : Thread nD τ).loc main_v3_1) = (fun y : S1024x5120.Idx => code (rx m c (y 0)) (y 1))
    ∧ r.2.mem ((c.tc : Thread nD τ).loc main_v3_2) = (fun y : S1024x1.Idx => scale (rx m c (y 0)))
    ∧ r.2.mem ((c.tc : Thread nD τ).loc main_v3_3) = (fun y : S1024x3456.Idx => code (rh m c (y 0)) (y 1))
    ∧ r.2.mem ((c.tc : Thread nD τ).loc main_v3_4) = (fun y : S1024x1.Idx => scale (rh m c (y 0)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main m ρ)
  refine ⟨((h c).1 5).trans (final_5 m c), ((h c).1 6).trans (final_6 m c), ((h c).1 7).trans (final_7 m c), ((h c).1 8).trans (final_8 m c), ((h c).1 9).trans (final_9 m c), ?_, ?_, ?_, ?_, ?_⟩
  · exact ((h c).2 main_arg0 (Pipeline.mem_restRefs_of main_arg0 (by decide) (by decide))).trans (V_main_arg0 m c)
  · exact ((h c).1 1).trans (((dats m 0 c).arrAt_in 1 rfl _).trans ((A_eq m c 1).trans (V_main_arg1 m c)))
  · exact ((h c).2 main_arg2 (Pipeline.mem_restRefs_of main_arg2 (by decide) (by decide))).trans (V_main_arg2 m c)
  · exact ((h c).1 3).trans (((dats m 0 c).arrAt_in 3 rfl _).trans ((A_eq m c 3).trans (V_main_arg3 m c)))
  · exact ((h c).2 main_arg4 (Pipeline.mem_restRefs_of main_arg4 (by decide) (by decide))).trans (V_main_arg4 m c)

end Cert.ReferenceIdeal.Gen

namespace Cert.Proof

open Idealize.ShloMosaic Idealize.ShloMosaic.TcCoe Idealize.ShloMosaic.Tactic Idealize.SL.Sem
open Cert.Quant

/-- The token rows agree. -/
theorem ex (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.rx m' c = Cert.KernelIdeal.Gen.kx m c := by
  funext i k
  unfold Cert.ReferenceIdeal.Gen.rx Cert.KernelIdeal.Gen.kx
  entry_read
  rw [h]
  rfl

/-- The fused weights agree. -/
theorem ew (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.rw' m' c = Cert.KernelIdeal.Gen.kw m c := by
  funext j k
  unfold Cert.ReferenceIdeal.Gen.rw' Cert.KernelIdeal.Gen.kw
  exact congrFun h _

/-- The fused weights' scales agree. -/
theorem es (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.rs m' c = Cert.KernelIdeal.Gen.ks m c := by
  funext j
  unfold Cert.ReferenceIdeal.Gen.rs Cert.KernelIdeal.Gen.ks
  entry_read
  rw [h]
  rfl

/-- The down weights agree. -/
theorem ewd (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.rwd m' c = Cert.KernelIdeal.Gen.kwd m c := by
  funext j k
  unfold Cert.ReferenceIdeal.Gen.rwd Cert.KernelIdeal.Gen.kwd
  exact congrFun h _

/-- The down weights' scales agree. -/
theorem esd (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Gen.rsd m' c = Cert.KernelIdeal.Gen.ksd m c := by
  funext j
  unfold Cert.ReferenceIdeal.Gen.rsd Cert.KernelIdeal.Gen.ksd
  entry_read
  rw [h]
  rfl

/-- Every result of the kernel is the reference's, over the extended reals. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => (fun y : Cert.KernelIdeal.S1024x5120.Idx => proj (Cert.KernelIdeal.Gen.kh m c (y 0)) (Cert.KernelIdeal.Gen.kwd m c (y 1)) (Cert.KernelIdeal.Gen.ksd m c (y 1))),
    fun c => (fun y : Cert.KernelIdeal.S1024x5120.Idx => code (Cert.KernelIdeal.Gen.kx m c (y 0)) (y 1)),
    fun c => (fun y : Cert.KernelIdeal.S1024x1.Idx => scale (Cert.KernelIdeal.Gen.kx m c (y 0))),
    fun c => (fun y : Cert.KernelIdeal.S1024x3456.Idx => code (Cert.KernelIdeal.Gen.kh m c (y 0)) (y 1)),
    fun c => (fun y : Cert.KernelIdeal.S1024x1.Idx => scale (Cert.KernelIdeal.Gen.kh m c (y 0))), Cert.KernelIdeal.Gen.run_values m g, ?_⟩
  refine (θ_run _ _ _).mono (fun r h c => ?_) (Cert.ReferenceIdeal.Gen.run_values m' g')
  have hc := h c
  have eh : Cert.ReferenceIdeal.Gen.rh m' c = Cert.KernelIdeal.Gen.kh m c := by
    funext i
    unfold Cert.ReferenceIdeal.Gen.rh Cert.KernelIdeal.Gen.kh
    rw [ex m m' c (hargs c).1, ew m m' c (hargs c).2.1, es m m' c (hargs c).2.2.1]
  rw [eh, ex m m' c (hargs c).1, ewd m m' c (hargs c).2.2.2.1, esd m m' c (hargs c).2.2.2.2] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.KernelIdealRun
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claims of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, Cert.Proof.algebraic⟩

end Cert.Proof

end
